-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_in_range_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S1024x1024 : Shape := ⟨2, ![1024, 1024]⟩
abbrev S256x1024 : Shape := ⟨2, ![256, 1024]⟩
abbrev S7 : Shape := ⟨1, ![7]⟩
abbrev S_ : Shape := ⟨0, ![]⟩
abbrev S256 : Shape := ⟨1, ![256]⟩
abbrev S1x256 : Shape := ⟨2, ![1, 256]⟩
abbrev S8192x256 : Shape := ⟨2, ![8192, 256]⟩
abbrev S1 : Shape := ⟨1, ![1]⟩
abbrev S256x512 : Shape := ⟨2, ![256, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S1024x1024, .f32⟩
  | .local _ .vmem, ⟨0, _⟩ => ⟨S1024, .i32⟩
  | .local _ .vmem, ⟨1, _⟩ => ⟨S8192x1024, .f32⟩
  | .local _ .vmem, ⟨2, _⟩ => ⟨S1024x1024, .f32⟩
  | .local _ .vmem, ⟨3, _⟩ => ⟨S256x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) : Fin 1 → Nat :=
  let c2_i32_20 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.muli c2_i32_20 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c256_i32_27 : BitVec 32 := 256#32
  let v42 : BitVec 32 := Scalar.muli v32 c256_i32_27
  let v43 : Index := Scalar.indexCast v42
  ![v43.toNat]
def k0_off2 (d0 : Dev nD) : Fin 2 → Nat :=
  let c2_i32_20 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.muli c2_i32_20 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c256_i32 : BitVec 32 := 256#32
  let v39 : BitVec 32 := Scalar.muli v32 c256_i32
  let v60 : Index := Scalar.indexCast v39
  let c0_29 : Index := 0#32
  ![v60.toNat, 0]
def k0_off3 (d0 : Dev nD) : Fin 2 → Nat :=
  let c2_i32_20 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.muli c2_i32_20 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c256_i32 : BitVec 32 := 256#32
  let v39 : BitVec 32 := Scalar.muli v32 c256_i32
  let c0_i32_36 : BitVec 32 := 0#32
  ![v39.toNat, 0]
def k0_dev4 (d0 : Dev nD) : Nat :=
  let c0_i32_33 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_32 : BitVec 32 := 4#32
  let v62 : BitVec 32 := Scalar.muli v9 c4_i32_32
  let v63 : BitVec 32 := Scalar.addi c0_i32_33 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v64 : BitVec 32 := Scalar.muli v5 c2_i32_34
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v66 : BitVec 32 := Scalar.muli v8 c1_i32_35
  let v67 : BitVec 32 := Scalar.addi v65 v66
  v67.toNat
def k0_off4 (d0 : Dev nD) : Fin 2 → Nat :=
  let c2_i32_20 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.muli c2_i32_20 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c256_i32 : BitVec 32 := 256#32
  let v39 : BitVec 32 := Scalar.muli v32 c256_i32
  let c0_i32_58 : BitVec 32 := 0#32
  ![v39.toNat, 0]
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v92 : BitVec 32 := Scalar.muli v2 c4_i32_54
  let v93 : BitVec 32 := Scalar.addi c0_i32_55 v92
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_56 : BitVec 32 := 2#32
  let v94 : BitVec 32 := Scalar.muli v10 c2_i32_56
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v96 : BitVec 32 := Scalar.muli v8 c1_i32_57
  let v97 : BitVec 32 := Scalar.addi v95 v96
  v97.toNat
def k0_off5 (d0 : Dev nD) : Fin 2 → Nat :=
  let c2_i32_20 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.muli c2_i32_20 v8
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c256_i32 : BitVec 32 := 256#32
  let v39 : BitVec 32 := Scalar.muli v32 c256_i32
  let c512_i32 : BitVec 32 := 512#32
  ![v39.toNat, 512]
def k0_dev6 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v104 : BitVec 32 := Scalar.muli v2 c4_i32_62
  let v105 : BitVec 32 := Scalar.addi c0_i32_63 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v106 : BitVec 32 := Scalar.muli v5 c2_i32_64
  let v107 : BitVec 32 := Scalar.addi v105 v106
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_65 : BitVec 32 := 1#32
  let v108 : BitVec 32 := Scalar.muli v11 c1_i32_65
  let v109 : BitVec 32 := Scalar.addi v107 v108
  v109.toNat
def k0_dev7 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v144 : BitVec 32 := Scalar.muli v2 c4_i32_95
  let v145 : BitVec 32 := Scalar.addi c0_i32_96 v144
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_97 : BitVec 32 := 2#32
  let v146 : BitVec 32 := Scalar.muli v10 c2_i32_97
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v148 : BitVec 32 := Scalar.muli v8 c1_i32_98
  let v149 : BitVec 32 := Scalar.addi v147 v148
  v149.toNat
def k0_off6 (d0 : Dev nD) : Fin 2 → Nat :=
  let c2_i32_24 : BitVec 32 := 2#32
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_23 v8
  let v37 : BitVec 32 := Scalar.muli c2_i32_24 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.addi v37 v5
  let c256_i32_26 : BitVec 32 := 256#32
  let v41 : BitVec 32 := Scalar.muli v38 c256_i32_26
  let c512_i32_107 : BitVec 32 := 512#32
  ![v41.toNat, 512]
def k0_dev8 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v156 : BitVec 32 := Scalar.muli v2 c4_i32_103
  let v157 : BitVec 32 := Scalar.addi c0_i32_104 v156
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_105 : BitVec 32 := 2#32
  let v158 : BitVec 32 := Scalar.muli v10 c2_i32_105
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v160 : BitVec 32 := Scalar.muli v8 c1_i32_106
  let v161 : BitVec 32 := Scalar.addi v159 v160
  v161.toNat
def k0_dev9 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v168 : BitVec 32 := Scalar.muli v2 c4_i32_110
  let v169 : BitVec 32 := Scalar.addi c0_i32_111 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v170 : BitVec 32 := Scalar.muli v5 c2_i32_112
  let v171 : BitVec 32 := Scalar.addi v169 v170
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_113 : BitVec 32 := 1#32
  let v172 : BitVec 32 := Scalar.muli v11 c1_i32_113
  let v173 : BitVec 32 := Scalar.addi v171 v172
  v173.toNat
def k0_off7 (d0 : Dev nD) : Fin 2 → Nat :=
  let c2_i32_21 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.muli c2_i32_21 v8
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_22 v5
  let v35 : BitVec 32 := Scalar.addi v33 v34
  let c256_i32_25 : BitVec 32 := 256#32
  let v40 : BitVec 32 := Scalar.muli v35 c256_i32_25
  let c0_i32_121 : BitVec 32 := 0#32
  ![v40.toNat, 0]
def k0_dev10 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v180 : BitVec 32 := Scalar.muli v2 c4_i32_117
  let v181 : BitVec 32 := Scalar.addi c0_i32_118 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v182 : BitVec 32 := Scalar.muli v5 c2_i32_119
  let v183 : BitVec 32 := Scalar.addi v181 v182
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_120 : BitVec 32 := 1#32
  let v184 : BitVec 32 := Scalar.muli v11 c1_i32_120
  let v185 : BitVec 32 := Scalar.addi v183 v184
  v185.toNat
abbrev stage0_0 : Fin 1 → Memref sig .tc .vmem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Protocol.lean ====
/-
# The exchange: cells, contents, schedule and levels

Eight devices at the corners of a cube. A device `c` has three neighbours, `px c`, `py c` and `pz c`. It
computes one row block (of four) of the partial lookup, adds the partial of `px c` to it, and passes the
row block on, in halves, along `y` and along `z`: first its own, then the one it was sent along the other axis.

Each device owns one barrier cell, seven send cells and seven receive cells, each used for one round. What the
barrier's three units hand over are the destinations of the copies: the landing buffer of `px c` and the three
half blocks of `py c`'s and of `pz c`'s result that `c` will write.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's rounds; a barrier duty is named by the axis it is paid along, a transfer's is `0`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, any generator registers, every counter zero. -/
def s₀ : MemSt nD τ sig (Elt F) := ⟨m, fun _ => 0, ρ⟩

/-! ## The cube -/

set_option backward.proofsInPublic true in
/-- The neighbour along `x`. -/
def px (c : Dev nD) : Dev nD := ⟨(c.val + 4) % 8, Nat.mod_lt _ (by decide)⟩
set_option backward.proofsInPublic true in
/-- The neighbour along `y`. -/
def py (c : Dev nD) : Dev nD := ⟨4 * (c.val / 4) + (c.val + 2) % 4, by have := c.isLt; simp only [nD] at *; omega⟩
set_option backward.proofsInPublic true in
/-- The neighbour along `z`. -/
def pz (c : Dev nD) : Dev nD := ⟨2 * (c.val / 2) + (c.val + 1) % 2, by have := c.isLt; simp only [nD] at *; omega⟩

theorem px_px (c : Dev nD) : px (px c) = c := by revert c; decide
theorem py_py (c : Dev nD) : py (py c) = c := by revert c; decide
theorem pz_pz (c : Dev nD) : pz (pz c) = c := by revert c; decide

/-- The neighbour that the copy `j` goes to, and whose own copy `j` comes in. -/
def pj (j : Fin 7) (c : Dev nD) : Dev nD :=
  match j with | 0 => px c | 1 => py c | 2 => pz c | 3 => py c | 4 => py c | 5 => pz c | 6 => pz c

theorem pj_pj (j : Fin 7) (c : Dev nD) : pj j (pj j c) = c := by revert c j; decide

/-- The neighbour along the axis `d`. -/
def pa (d : Fin 3) (c : Dev nD) : Dev nD := match d with | 0 => px c | 1 => py c | 2 => pz c

theorem pa_pa (d : Fin 3) (c : Dev nD) : pa d (pa d c) = c := by revert c d; decide

/-- The devices that the printed program addresses. -/
theorem dev1_eq (c : Dev nD) : (⟨k0_dev1 c, k0_dev1_lt c⟩ : Dev nD) = px c := Fin.ext ((k0_dev1_eq c).trans (by revert c; decide))
theorem dev2_eq (c : Dev nD) : (⟨k0_dev2 c, k0_dev2_lt c⟩ : Dev nD) = py c := Fin.ext ((k0_dev2_eq c).trans (by revert c; decide))
theorem dev3_eq (c : Dev nD) : (⟨k0_dev3 c, k0_dev3_lt c⟩ : Dev nD) = pz c := Fin.ext ((k0_dev3_eq c).trans (by revert c; decide))
theorem dev4_eq (c : Dev nD) : (⟨k0_dev4 c, k0_dev4_lt c⟩ : Dev nD) = pj 0 c := Fin.ext ((k0_dev4_eq c).trans (by revert c; decide))
theorem dev5_eq (c : Dev nD) : (⟨k0_dev5 c, k0_dev5_lt c⟩ : Dev nD) = pj 1 c := Fin.ext ((k0_dev5_eq c).trans (by revert c; decide))
theorem dev6_eq (c : Dev nD) : (⟨k0_dev6 c, k0_dev6_lt c⟩ : Dev nD) = pj 2 c := Fin.ext ((k0_dev6_eq c).trans (by revert c; decide))
theorem dev7_eq (c : Dev nD) : (⟨k0_dev7 c, k0_dev7_lt c⟩ : Dev nD) = pj 3 c := Fin.ext ((k0_dev7_eq c).trans (by revert c; decide))
theorem dev8_eq (c : Dev nD) : (⟨k0_dev8 c, k0_dev8_lt c⟩ : Dev nD) = pj 4 c := Fin.ext ((k0_dev8_eq c).trans (by revert c; decide))
theorem dev9_eq (c : Dev nD) : (⟨k0_dev9 c, k0_dev9_lt c⟩ : Dev nD) = pj 5 c := Fin.ext ((k0_dev9_eq c).trans (by revert c; decide))
theorem dev10_eq (c : Dev nD) : (⟨k0_dev10 c, k0_dev10_lt c⟩ : Dev nD) = pj 6 c := Fin.ext ((k0_dev10_eq c).trans (by revert c; decide))

set_option backward.proofsInPublic true in
/-- The row block that device `c` computes. -/
def ko (c : Dev nD) : Fin 4 := ⟨2 * (c.val % 2) + (c.val / 2) % 2, by omega⟩

set_option backward.proofsInPublic true in
/-- The device on `c`'s side of the `x` axis that computes row block `k`. -/
def rowDev (c : Dev nD) (k : ℕ) : Dev nD := ⟨4 * (c.val / 4) + 2 * (k % 2) + (k / 2) % 2, by have := c.isLt; simp only [nD] at *; omega⟩

theorem rowDev_ko (c : Dev nD) : rowDev c (ko c).val = c := by revert c; decide
theorem rowDev_pj (j : Fin 7) (hj : j ≠ 0) (c : Dev nD) (k : ℕ) : rowDev (pj j c) k = rowDev c k := by
  have h : ∀ (j : Fin 7), j ≠ 0 → ∀ c : Dev nD, (pj j c).val / 4 = c.val / 4 := by decide
  unfold rowDev; apply Fin.ext; dsimp only; rw [h j hj c]

/-! ## The memrefs and the cells -/

/-- The staged ids, the staged table shard, the staged result, and the landing buffer. -/
abbrev iM : Memref sig .tc .vmem S1024 .i32 := Memref.whole cc0_stg0_0
abbrev eM : Memref sig .tc .vmem S8192x1024 .f32 := Memref.whole cc0_stg1_0
abbrev oM : Memref sig .tc .vmem S1024x1024 .f32 := Memref.whole cc0_stg2_0
abbrev rM : Memref sig .tc .vmem S256x1024 .f32 := Memref.whole cc0_scratch0

/-- The rectangle that device `c` names for the copy `j ≥ 1`, at the source and at the destination. -/
def offC (c : Dev nD) (j : Fin 7) : Fin 2 → ℕ :=
  match j with | 0 => k0_off4 c | 1 => k0_off4 c | 2 => k0_off5 c | 3 => k0_off5 c | 4 => k0_off6 c | 5 => k0_off4 c | 6 => k0_off7 c

theorem offC_inb (c : Dev nD) (j : Fin 7) : ∀ a, offC c j a + S256x512.size a ≤ S1024x1024.size a :=
  match j with
  | 0 => k0_off4_inb c | 1 => k0_off4_inb c | 2 => k0_off5_inb c | 3 => k0_off5_inb c | 4 => k0_off6_inb c | 5 => k0_off4_inb c | 6 => k0_off7_inb c

/-- The half block that the copy `j ≥ 1` of device `c` moves; -/
abbrev hM (c : Dev nD) (j : Fin 7) : Memref sig .tc .vmem S256x512 .f32 :=
  oM.slice (Rect.unit (s := S1024x1024) (offC c j) S256x512.size (offC_inb c j)) (fun _ => rfl)
/-- the row block that its copy 0 moves. -/
abbrev wM (c : Dev nD) : Memref sig .tc .vmem S256x1024 .f32 :=
  oM.slice (Rect.unit (s := S1024x1024) (k0_off3 c) S256x1024.size (k0_off3_inb c)) (fun _ => rfl)
/-- The same row block as the loads and stores name it. -/
abbrev rowR (c : Dev nD) : Rect S1024x1024 := Rect.unit (s := S1024x1024) (k0_off2 c) S256x1024.size (k0_off2_inb c)

/-- The entry barrier's semaphore, the send and the receive semaphores. -/
abbrev barS : Sem sig := (SemArray.scalar (sig.barrier 0 rfl) : Sems sig S_).sem
set_option backward.proofsInPublic true in
def sq (j : Fin 7) : DmaSem sig := (⟨3 + j.val, by have := j.isLt; show 3 + j.val < 17; omega⟩ : Fin 17)
set_option backward.proofsInPublic true in
def rq (j : Fin 7) : DmaSem sig := (⟨10 + j.val, by have := j.isLt; show 10 + j.val < 17; omega⟩ : Fin 17)

abbrev barCell (c : Dev nD) : GSem nD τ sig := ((c : Thread nD τ), .reg barS)
abbrev sndCell (j : Fin 7) (c : Dev nD) : GSem nD τ sig := ((c : Thread nD τ), .dma (sq j))
abbrev rcvCell (j : Fin 7) (c : Dev nD) : GSem nD τ sig := ((c : Thread nD τ), .dma (rq j))

set_option backward.proofsInPublic true in
/-- The kernel's own semaphores: sends, then receives. -/
def osem (k : Fin 14) : SemLoc sig := .dma (⟨3 + k.val, by have := k.isLt; show 3 + k.val < 17; omega⟩ : Fin 17)

theorem sem_s0 : ((cc0_scratch1.slice (Rect.unit (s := S7) ![0] S1.size inb_S7_S1_0)).squeeze S_ squeezes_S1_S_).sem = sq 0 := by decide
theorem sem_s1 : ((cc0_scratch1.slice (Rect.unit (s := S7) ![1] S1.size inb_S7_S1_1)).squeeze S_ squeezes_S1_S_).sem = sq 1 := by decide
theorem sem_s2 : ((cc0_scratch1.slice (Rect.unit (s := S7) ![2] S1.size inb_S7_S1_2)).squeeze S_ squeezes_S1_S_).sem = sq 2 := by decide
theorem sem_s3 : ((cc0_scratch1.slice (Rect.unit (s := S7) ![3] S1.size inb_S7_S1_3)).squeeze S_ squeezes_S1_S_).sem = sq 3 := by decide
theorem sem_s4 : ((cc0_scratch1.slice (Rect.unit (s := S7) ![4] S1.size inb_S7_S1_4)).squeeze S_ squeezes_S1_S_).sem = sq 4 := by decide
theorem sem_s5 : ((cc0_scratch1.slice (Rect.unit (s := S7) ![5] S1.size inb_S7_S1_5)).squeeze S_ squeezes_S1_S_).sem = sq 5 := by decide
theorem sem_s6 : ((cc0_scratch1.slice (Rect.unit (s := S7) ![6] S1.size inb_S7_S1_6)).squeeze S_ squeezes_S1_S_).sem = sq 6 := by decide
theorem sem_r0 : ((cc0_scratch2.slice (Rect.unit (s := S7) ![0] S1.size inb_S7_S1_0)).squeeze S_ squeezes_S1_S_).sem = rq 0 := by decide
theorem sem_r1 : ((cc0_scratch2.slice (Rect.unit (s := S7) ![1] S1.size inb_S7_S1_1)).squeeze S_ squeezes_S1_S_).sem = rq 1 := by decide
theorem sem_r2 : ((cc0_scratch2.slice (Rect.unit (s := S7) ![2] S1.size inb_S7_S1_2)).squeeze S_ squeezes_S1_S_).sem = rq 2 := by decide
theorem sem_r3 : ((cc0_scratch2.slice (Rect.unit (s := S7) ![3] S1.size inb_S7_S1_3)).squeeze S_ squeezes_S1_S_).sem = rq 3 := by decide
theorem sem_r4 : ((cc0_scratch2.slice (Rect.unit (s := S7) ![4] S1.size inb_S7_S1_4)).squeeze S_ squeezes_S1_S_).sem = rq 4 := by decide
theorem sem_r5 : ((cc0_scratch2.slice (Rect.unit (s := S7) ![5] S1.size inb_S7_S1_5)).squeeze S_ squeezes_S1_S_).sem = rq 5 := by decide
theorem sem_r6 : ((cc0_scratch2.slice (Rect.unit (s := S7) ![6] S1.size inb_S7_S1_6)).squeeze S_ squeezes_S1_S_).sem = rq 6 := by decide

/-- The credit of a row block and of a half block. -/
abbrev N0 : ℕ := rM.view.dmaCredit
abbrev N1 : ℕ := (hM 0 1).view.dmaCredit
theorem N0_pos : 0 < N0 := View.dmaCredit_pos _ (by decide)
theorem N1_pos : 0 < N1 := View.dmaCredit_pos _ (by decide)
theorem credit_w (c : Dev nD) : (wM c).view.dmaCredit = N0 := by rfl
theorem credit_h (c : Dev nD) (j : Fin 7) : (hM c j).view.dmaCredit = N1 := rfl

/-- The credit of the copy `j`. -/
def NN (j : Fin 7) : ℕ := if j = 0 then N0 else N1
theorem NN_pos (j : Fin 7) : 0 < NN j := by unfold NN; split; exacts [N0_pos, N1_pos]

/-! ## Contents -/

/-- The ids and the table shard as the kernel's windows stage them. -/
def idsStg (c : Dev nD) : (cc0_stg0_0 : Ref sig .tc).ty.Contents (Elt F) :=
  (win0_0.blk (0 : Fin 1)).view.read (Elt F) ((s₀ m ρ).mem ((c : Thread nD τ).loc main_arg0))
def tabStg (c : Dev nD) : (cc0_stg1_0 : Ref sig .tc).ty.Contents (Elt F) :=
  (win0_1.blk (0 : Fin 1)).view.read (Elt F) ((s₀ m ρ).mem ((c : Thread nD τ).loc main_arg1))

/-- The device's `x` coordinate, as the program computes it. -/
def xw (c : Dev nD) : BitVec 32 := Scalar.remsi (Scalar.divsi (Dev.word c) 4#32) 2#32

/-- Device `c`'s partial lookup of its row block; -/
def part (c : Dev nD) : FVec F S256x1024 .f32 :=
  k0_pay1 (xw c)
    (iM.view.readAt (Elt F) (Rect.unit (s := S1024) (k0_off1 c) S256.size (k0_off1_inb c)).toLoadRect (idsStg m ρ c))
    (eM.view.readAt (Elt F) (Rect.unit (s := S8192x1024) ![0, 0] S8192x1024.size inb_S8192x1024_S8192x1024_0_0).toLoadRect (tabStg m ρ c))
/-- with its `x` neighbour's added, the row block of the result. -/
def full (c : Dev nD) : FVec F S256x1024 .f32 := k0_pay2 (part m ρ c) (part m ρ (px c))

set_option backward.proofsInPublic true in
/-- A result index within its row block. -/
def lo (i : S1024x1024.Idx) : S256x1024.Idx := fun
  | ⟨0, _⟩ => (⟨(i 0).val % 256, Nat.mod_lt _ (by decide)⟩ : Fin 256)
  | ⟨1, _⟩ => (⟨(i 1).val, (i 1).isLt⟩ : Fin 1024)

/-- Device `c`'s partial at every row block; -/
def PART (c : Dev nD) : Buf (Elt F) ((c : Thread nD τ).loc cc0_stg2_0) := fun i : S1024x1024.Idx => part m ρ c (lo i)
/-- its result. -/
def OUT (c : Dev nD) : Buf (Elt F) ((c : Thread nD τ).loc cc0_stg2_0) := fun i : S1024x1024.Idx => full m ρ (rowDev c ((i 0).val / 256)) (lo i)

theorem OUT_pj (j : Fin 7) (hj : j ≠ 0) (c : Dev nD) (i : S1024x1024.Idx) : OUT m ρ (pj j c) i = OUT m ρ c i := by
  unfold OUT; rw [rowDev_pj j hj]

/-! ## What the cells hand over -/

/-- Device `d`'s half block that the copy `j` of device `c` names, holding `f`; -/
def hPts (d c : Dev nD) (j : Fin 7) (f : Buf (Elt F) ((d : Thread nD τ).loc cc0_stg2_0)) : sProp 𝕄 :=
  (hM c j).view.loc (d : Thread nD τ) ↦[(hM c j).view.set]{fullShare} f
/-- holding anything; -/
def hAny (d c : Dev nD) (j : Fin 7) : sProp 𝕄 := iprop(∃ f, hPts (F := F) d c j f)
/-- device `c`'s own row block; -/
def wPts (c : Dev nD) (f : Buf (Elt F) ((c : Thread nD τ).loc cc0_stg2_0)) : sProp 𝕄 :=
  (wM c).view.loc (c : Thread nD τ) ↦[(wM c).view.set]{fullShare} f
/-- its landing buffer. -/
def rPts (c : Dev nD) (f : Buf (Elt F) ((c : Thread nD τ).loc cc0_scratch0)) : sProp 𝕄 :=
  rM.view.loc (c : Thread nD τ) ↦[rM.view.set]{fullShare} f
def rAny (c : Dev nD) : sProp 𝕄 := iprop(∃ f, rPts (F := F) c f)

omit [FloatOps F] in
instance hPts_storable (d c : Dev nD) (j f) : BI.Storable (upEmb : UEmb _ 𝕄) (hPts (F := F) d c j f) := by unfold hPts; infer_instance
omit [FloatOps F] in
instance hAny_storable (d c : Dev nD) (j) : BI.Storable (upEmb : UEmb _ 𝕄) (hAny (F := F) d c j) := by unfold hAny; infer_instance
omit [FloatOps F] in
instance wPts_storable (c : Dev nD) (f) : BI.Storable (upEmb : UEmb _ 𝕄) (wPts (F := F) c f) := by unfold wPts; infer_instance
omit [FloatOps F] in
instance rPts_storable (c : Dev nD) (f) : BI.Storable (upEmb : UEmb _ 𝕄) (rPts (F := F) c f) := by unfold rPts; infer_instance
omit [FloatOps F] in
instance rAny_storable (c : Dev nD) : BI.Storable (upEmb : UEmb _ 𝕄) (rAny (F := F) c) := by unfold rAny; infer_instance

/-- What the unit paid along the axis `d` hands device `c`: the destinations on that neighbour of `c`'s copies. -/
def barPay (c : Dev nD) (d : Fin 3) : sProp 𝕄 :=
  match d with
  | 0 => rAny (px c)
  | 1 => iprop(hAny (py c) c 1 ∗ hAny (py c) c 3 ∗ hAny (py c) c 4)
  | 2 => iprop(hAny (pz c) c 2 ∗ hAny (pz c) c 5 ∗ hAny (pz c) c 6)

/-- What the copy `j`'s send hands back to `c`: its source; -/
def sndPay (j : Fin 7) (c : Dev nD) : sProp 𝕄 := if j = 0 then wPts c (PART m ρ c) else hPts c c j (OUT m ρ c)
/-- what its landing on `c` hands `c`: the destination, holding what the neighbour sent. -/
def rcvPay (j : Fin 7) (c : Dev nD) : sProp 𝕄 :=
  if j = 0 then rPts c (part m ρ (px c)) else hPts c (pj j c) j (OUT m ρ c)

/-- The copy that the semaphore `q` belongs to. -/
def cq (q : Fin 17) : Fin 7 := if q.val < 10 then Fin.ofNat 7 (q.val - 3) else Fin.ofNat 7 (q.val - 10)

theorem cq_sq (j : Fin 7) : cq (sq j) = j := by revert j; decide
theorem cq_rq (j : Fin 7) : cq (rq j) = j := by revert j; decide

/-- The schedule: one round. A barrier cell has a unit duty per axis; a send or receive cell one duty of its copy's credit. -/
def rd : Rounds.Schedule (GSem nD τ sig) (Fin 3) 𝕄 where
  duties g r :=
    if r = 0 ∧ g.1.2 = .tc then
      match g.2 with
      | .reg _ => Finset.univ
      | .dma q => if (3 : Fin 17) ≤ q then {0} else ∅
    else ∅
  unitless _ := False
  amount g _ _ := match g.2 with | .reg _ => 1 | .dma q => NN (cq q)
  payload g _ d :=
    match g.2 with
    | .reg _ => barPay g.1.1 d
    | .dma q => if (10 : Fin 17) ≤ q then rcvPay m ρ (cq q) g.1.1 else if (3 : Fin 17) ≤ q then sndPay m ρ (cq q) g.1.1 else iprop(emp)
  amount_pos g _ _ _ := by
    obtain ⟨t, s⟩ := g
    cases s
    · exact Nat.one_pos
    · exact NN_pos _

instance rd_payload_storable (g : GSem nD τ sig) (r : ℕ) (d : Fin 3) :
    BI.Storable (upEmb : UEmb _ 𝕄) ((rd (F := F) m ρ).payload g r d) := by
  obtain ⟨t, s⟩ := g
  cases s with
  | reg s =>
    show BI.Storable upEmb (barPay (F := F) t.1 d)
    unfold barPay; split <;> infer_instance
  | dma q =>
    show BI.Storable upEmb (if (10 : Fin 17) ≤ q then rcvPay m ρ (cq q) t.1 else if (3 : Fin 17) ≤ q then sndPay m ρ (cq q) t.1 else iprop(emp))
    unfold rcvPay sndPay
    (repeat' split) <;> infer_instance

section Sched
variable (j : Fin 7) (c : Dev nD)

theorem duties_bar : (rd (F := F) m ρ).duties (barCell c) 0 = Finset.univ := by dsimp only [rd]; exact if_pos ⟨rfl, rfl⟩
theorem duties_snd : (rd (F := F) m ρ).duties (sndCell j c) 0 = {0} := by
  dsimp only [rd]; rw [if_pos ⟨rfl, rfl⟩]; exact if_pos (by revert j; decide)
theorem duties_rcv : (rd (F := F) m ρ).duties (rcvCell j c) 0 = {0} := by
  dsimp only [rd]; rw [if_pos ⟨rfl, rfl⟩]; exact if_pos (by revert j; decide)
theorem duties_later (g : GSem nD τ sig) : ∀ r, 1 ≤ r → (rd (F := F) m ρ).duties g r = ∅ :=
  fun r hr => by dsimp only [rd]; exact if_neg fun h => by omega

theorem amount_bar (d : Fin 3) : (rd (F := F) m ρ).amount (barCell c) 0 d = 1 := rfl
theorem amount_snd (d : Fin 3) : (rd (F := F) m ρ).amount (sndCell j c) 0 d = NN j := by dsimp only [rd]; rw [cq_sq]
theorem amount_rcv (d : Fin 3) : (rd (F := F) m ρ).amount (rcvCell j c) 0 d = NN j := by dsimp only [rd]; rw [cq_rq]

theorem expect_bar : (rd (F := F) m ρ).expect (barCell c) 0 = 3 := by
  unfold Schedule.expect Schedule.amountOf
  rw [duties_bar, Finset.sum_congr rfl fun d _ => amount_bar m ρ c d]; rfl
theorem expect_snd : (rd (F := F) m ρ).expect (sndCell j c) 0 = NN j := by
  unfold Schedule.expect Schedule.amountOf; rw [duties_snd, Finset.sum_singleton, amount_snd]
theorem expect_rcv : (rd (F := F) m ρ).expect (rcvCell j c) 0 = NN j := by
  unfold Schedule.expect Schedule.amountOf; rw [duties_rcv, Finset.sum_singleton, amount_rcv]

theorem payload_bar (d : Fin 3) : (rd (F := F) m ρ).payload (barCell c) 0 d = barPay c d := rfl
theorem payload_snd (d : Fin 3) : (rd (F := F) m ρ).payload (sndCell j c) 0 d = sndPay m ρ j c := by
  dsimp only [rd]; rw [cq_sq, if_neg (by revert j; decide), if_pos (by revert j; decide)]
theorem payload_rcv (d : Fin 3) : (rd (F := F) m ρ).payload (rcvCell j c) 0 d = rcvPay m ρ j c := by
  dsimp only [rd]; rw [cq_rq, if_pos (by revert j; decide)]

/-- The whole round of a barrier cell hands over the three neighbours' parts; -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
/-- of a send cell the source, -/
theorem rest_snd : bigSep ((rd (F := F) m ρ).duties (sndCell j c) 0 \ ∅) (fun d => (rd (F := F) m ρ).payload (sndCell j c) 0 d) = sndPay m ρ j c := by
  rw [Finset.sdiff_empty, duties_snd, bigSep_singleton, payload_snd]
/-- of a receive cell the destination. -/
theorem rest_rcv : bigSep ((rd (F := F) m ρ).duties (rcvCell j c) 0 \ ∅) (fun d => (rd (F := F) m ρ).payload (rcvCell j c) 0 d) = rcvPay m ρ j c := by
  rw [Finset.sdiff_empty, duties_rcv, bigSep_singleton, payload_rcv]

end Sched

/-! ## What each device owes at launch; the levels -/

/-- The receive credit that device `c` owes for the copies listed, the first of them the last summand. -/
def owedR (c : Dev nD) : List (Fin 7) → CellTallies nD τ sig Unit
  | [] => 0
  | j :: l => owedR c l + tallyAt (rcvCell j (pj j c)) () (NN j)

/-- The copies in program order, and those left after each wait. -/
abbrev l0 : List (Fin 7) := [0, 1, 2, 3, 4, 5, 6]
abbrev l1 : List (Fin 7) := [1, 2, 3, 4, 5, 6]
abbrev l3 : List (Fin 7) := [3, 4, 5, 6]

/-- At launch device `c` owes its copies' credit and a unit to each neighbour's barrier. -/
def O₀ (c : Dev nD) : CellTallies nD τ sig Unit :=
  owedR c l0 + tallyAt (barCell (pz c)) () 1 + tallyAt (barCell (py c)) () 1 + tallyAt (barCell (px c)) () 1

def L (g : GSem nD τ sig) : Finset Unit := if g.1.2 = .tc then {()} else ∅

/-- Levels of the semaphores: staging and sends below the barrier, the receives above it in order of use. -/
def slv (s : SemLoc sig) : ℕ :=
  match s with
  | .reg _ => 1
  | .dma q => if q < (10 : Fin 17) then 0 else if q < (11 : Fin 17) then 2 else if q < (13 : Fin 17) then 3 else 4

def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {l : List (Fin 7)} {g : GSem nD τ sig} {u : Unit} (h : 0 < owedR c l g u) :
    ∃ j ∈ l, g = rcvCell j (pj j c) := by
  induction l with
  | nil => exact absurd h (Nat.lt_irrefl 0)
  | cons j l ih =>
    unfold owedR at h
    rw [Pi.add_apply, Finsupp.add_apply, tallyAt_apply] at h
    by_cases hg : g = rcvCell j (pj j c)
    · exact ⟨j, List.mem_cons_self, hg⟩
    · rw [if_neg (fun h' => hg h'.1), Nat.add_zero] at h
      obtain ⟨j', hj', hg'⟩ := ih h
      exact ⟨j', List.mem_cons_of_mem _ hj', hg'⟩

theorem O₀_pos {c : Dev nD} {g : GSem nD τ sig} {u : Unit} (h : 0 < O₀ c g u) : ∃ d : Dev nD, ∃ s : SemLoc sig, g = ((d : Thread nD τ), s) ∧ 0 < slv s := by
  unfold O₀ at h
  rw [Pi.add_apply, Finsupp.add_apply, Pi.add_apply, Finsupp.add_apply, Pi.add_apply, Finsupp.add_apply, tallyAt_apply, tallyAt_apply, tallyAt_apply] at h
  by_cases h1 : g = barCell (px c)
  · exact ⟨_, _, h1, by decide⟩
  by_cases h2 : g = barCell (py c)
  · exact ⟨_, _, h2, by decide⟩
  by_cases h3 : g = barCell (pz c)
  · exact ⟨_, _, h3, by decide⟩
  rw [if_neg (fun h' => h3 h'.1), if_neg (fun h' => h2 h'.1), if_neg (fun h' => h1 h'.1)] at h
  have h' : 0 < owedR c l0 g u := h
  obtain ⟨j, -, rfl⟩ := owedR_pos h'
  exact ⟨_, _, rfl, by clear h h1 h2 h3 h'; revert j; decide⟩

omit [FloatOps F] in
/-- A wait below every receive cell still owed is allowed. -/
theorem mayWait_owedR (c : Dev nD) (s : SemLoc sig) (l : List (Fin 7)) (h : ∀ j ∈ l, slv s < slv (.dma (rq j))) :
    (levAts L lv : sProp 𝕄) ⊢ MayWait (c : Thread nD τ) s () (owedR c l) :=
  MayOwe.of_cut (L := L) (lev := lv) (slv s) (fun p hp => by rw [Finset.mem_singleton.mp hp, L_tc]; exact Finset.mem_singleton_self _)
    (fun g u hg => by obtain ⟨j, -, rfl⟩ := owedR_pos hg; exact Finset.mem_singleton_self _)
    (fun p hp => by rw [Finset.mem_singleton.mp hp]; exact le_rfl)
    (fun g u hg => by obtain ⟨j, hj, rfl⟩ := owedR_pos hg; exact h j hj)

omit [FloatOps F] in
/-- The staging copies' waits, at level 0, are allowed under the launch's debts and under none. -/
theorem mayWait_stage (c : Dev nD) (q : DmaSem sig) (hq : slv (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, s, rfl, -⟩ := O₀_pos hg; exact Finset.mem_singleton_self _)
      (fun p hp => by rw [Finset.mem_singleton.mp hp]; exact hq.le)
      (fun g u hg => by obtain ⟨d, s, rfl, hs⟩ := O₀_pos hg; exact hs)
  · rw [MayWait_zero]; iintro -; iempintro

/-! ## The cells all together, and each device's share -/

/-- The fifteen cells of a device: the barrier, the sends, the receives. -/
def csem (k : Fin 15) : SemLoc sig :=
  match k with
  | 0 => .reg barS
  | 1 => .dma (sq 0) | 2 => .dma (sq 1) | 3 => .dma (sq 2) | 4 => .dma (sq 3) | 5 => .dma (sq 4) | 6 => .dma (sq 5) | 7 => .dma (sq 6)
  | 8 => .dma (rq 0) | 9 => .dma (rq 1) | 10 => .dma (rq 2) | 11 => .dma (rq 3) | 12 => .dma (rq 4) | 13 => .dma (rq 5) | 14 => .dma (rq 6)
abbrev kcell (ck : Dev nD × Fin 15) : GSem nD τ sig := ((ck.1 : Thread nD τ), csem ck.2)

set_option backward.proofsInPublic true in
def ks (j : Fin 7) : Fin 15 := ⟨1 + j.val, by omega⟩
set_option backward.proofsInPublic true in
def kr (j : Fin 7) : Fin 15 := ⟨8 + j.val, by omega⟩
theorem csem_ks (j : Fin 7) : csem (ks j) = .dma (sq j) := by revert j; decide
theorem csem_kr (j : Fin 7) : csem (kr j) = .dma (rq j) := by revert j; decide

/-- Every cell's invariant, at the names `K`, and that every cell has reached its first round. -/
def records (K : Dev nD × Fin 15 → ℕ) : sProp 𝕄 :=
  iprop((bigSep Finset.univ fun ck : Dev nD × Fin 15 => cellInv ER (rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem rec_inv (K : Dev nD × Fin 15 → ℕ) (c : Dev nD) (k : Fin 15) (s : SemLoc sig) (hs : csem k = s) :
    records m ρ K ⊢ cellInv ER (rd m ρ) (K (c, k)) ((c : Thread nD τ), s) := by
  subst hs; unfold records; exact sep_elim_left.trans (bigSep_elim (Finset.mem_univ (c, k)))
theorem rec_reached (K : Dev nD × Fin 15 → ℕ) (c : Dev nD) (k : Fin 15) (s : SemLoc sig) (hs : csem k = s) :
    records m ρ K ⊢ reached ER ((c : Thread nD τ), s) 0 := by
  subst hs; unfold records; exact sep_elim_right.trans (bigSep_elim (Finset.mem_univ (c, k)))

/-- The tokens of the duties that device `c` pays. -/
def payToks (c : Dev nD) : sProp 𝕄 :=
  iprop((bigSep Finset.univ fun d : Fin 3 => dutyTok ER (barCell (pa d c)) 0 d)
    ∗ (bigSep Finset.univ fun j : Fin 7 => dutyTok ER (sndCell j c) 0 0)
    ∗ (bigSep Finset.univ fun j : Fin 7 => dutyTok ER (rcvCell j (pj j c)) 0 0))

/-- Device `c`'s positions at the first round of its cells. -/
def poss (c : Dev nD) : sProp 𝕄 :=
  iprop(atPos ER (barCell c) 0 ∅ 0 ∗ (bigSep Finset.univ fun j : Fin 7 => atPos ER (sndCell j c) 0 ∅ 0)
    ∗ (bigSep Finset.univ fun j : Fin 7 => atPos ER (rcvCell j c) 0 ∅ 0))

def ghost (K : Dev nD × Fin 15 → ℕ) (c : Dev nD) : sProp 𝕄 := iprop(records m ρ K ∗ poss c ∗ payToks c)

/-- The credit device `c` waits with: its barrier's three units, its receives'. -/
def credits (c : Dev nD) : sProp 𝕄 :=
  iprop(cred (tallyAt (barCell c) () 3) ∗ bigSep Finset.univ fun j : Fin 7 => cred (tallyAt (rcvCell j c) () (NN j)))

/-- What device `c`'s body starts from. -/
def start (c : Dev nD) : sProp 𝕄 := iprop((∃ K, ghost m ρ K c) ∗ credits c ∗ levAts L lv)
def Φ₀ (c : Dev nD) : sProp 𝕄 := iprop(start m ρ c ∗ rAny c)
/-- What it ends with: the landing buffer, and every cell closed with its counter at zero. -/
def Φ₁ (c : Dev nD) : sProp 𝕄 :=
  iprop(rAny c ∗ (bigSep Finset.univ fun j : Fin 7 => semVal (sndCell j c) 0) ∗ (bigSep Finset.univ fun j : Fin 7 => semVal (rcvCell j c) 0) ∗ semVal (barCell c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idsStg m ρ c
    | ⟨1, _⟩ => tabStg m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

end Cert.Cube

end
-- ==== Proof.Geometry.lean ====
/-
# The half blocks, as element sets

A device's result is eight half blocks: the two halves of its own row block, the three that `y` neighbours send
it and the three that `z` neighbours send it. A copied half block holds at the destination what it held at the
source, and a stored row block holds what was stored.
-/
module

public import proofs.«01_k».proof.Proof.Protocol
public import Idealize.ShloMosaic.Lib.Pipeline.ValueKit.Geometry

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The half block that the copy `j` of device `c` names: its row block and its half. -/
def bk (c : Dev nD) (j : Fin 7) : Fin 4 × Fin 2 :=
  match j with
  | 0 => (ko c, 0) | 1 => (ko c, 0) | 2 => (ko c, 1) | 3 => (ko c, 1) | 4 => (ko (pz c), 1) | 5 => (ko c, 0) | 6 => (ko (py c), 0)

theorem offC_eq (c : Dev nD) (j : Fin 7) : offC c j = ![256 * (bk c j).1.val, 512 * (bk c j).2.val] := by
  have h4 := k0_off4_eq c; have h5 := k0_off5_eq c; have h6 := k0_off6_eq c; have h7 := k0_off7_eq c
  fin_cases j <;> dsimp only [offC] <;> simp only [h4, h5, h6, h7] <;> clear h4 h5 h6 h7 <;> revert c <;> decide

theorem off2_eq (c : Dev nD) : k0_off2 c = ![256 * (ko c).val, 0] := by rw [k0_off2_eq]; revert c; decide
theorem off3_eq (c : Dev nD) : k0_off3 c = ![256 * (ko c).val, 0] := by rw [k0_off3_eq]; revert c; decide

theorem mem_h (c : Dev nD) (j : Fin 7) (i : S1024x1024.Idx) :
    i ∈ (hM c j).view.set ↔ (i 0).val / 256 = (bk c j).1.val ∧ (i 1).val / 512 = (bk c j).2.val := by
  rw [show (hM c j).view.set = (Rect.unit (s := S1024x1024) (offC c j) S256x512.size (offC_inb c j)).set from View.set_slice_whole _ _, Rect.mem_set_unit,
    Fin.forall_fin_two, offC_eq]
  show (256 * (bk c j).1.val ≤ (i 0).val ∧ (i 0).val < 256 * (bk c j).1.val + 256) ∧ (512 * (bk c j).2.val ≤ (i 1).val ∧ (i 1).val < 512 * (bk c j).2.val + 512) ↔ _
  omega

theorem mem_w (c : Dev nD) (i : S1024x1024.Idx) : i ∈ (wM c).view.set ↔ (i 0).val / 256 = (ko c).val := by
  rw [show (wM c).view.set = (Rect.unit (s := S1024x1024) (k0_off3 c) S256x1024.size (k0_off3_inb c)).set from View.set_slice_whole _ _, Rect.mem_set_unit,
    Fin.forall_fin_two, off3_eq]
  show (256 * (ko c).val ≤ (i 0).val ∧ (i 0).val < 256 * (ko c).val + 256) ∧ (0 ≤ (i 1).val ∧ (i 1).val < 0 + 1024) ↔ _
  have h1 : (i 1).val < 1024 := (i 1).isLt
  omega

theorem mem_acc (c : Dev nD) (i : S1024x1024.Idx) : i ∈ (rowR c).set ↔ (i 0).val / 256 = (ko c).val := by
  rw [Rect.mem_set_unit, Fin.forall_fin_two, off2_eq]
  show (256 * (ko c).val ≤ (i 0).val ∧ (i 0).val < 256 * (ko c).val + 256) ∧ (0 ≤ (i 1).val ∧ (i 1).val < 0 + 1024) ↔ _
  have h1 : (i 1).val < 1024 := (i 1).isLt
  omega

/-- The loads and stores of the row block stay in it. -/
theorem acc_set (c : Dev nD) : (oM.access (rowR c)).set = (wM c).view.set := by
  ext i
  rw [show (oM.access (rowR c)).set = (rowR c).set from View.set_slice_whole _ _]
  exact (mem_acc c i).trans (mem_w c i).symm

/-! ## The eight half blocks of a device -/

/-- The eight half blocks of device `c`'s result: who sends each, by which copy (its own first). -/
def hs (c : Dev nD) (b : Fin 8) : Dev nD × Fin 7 :=
  match b with
  | 0 => (c, 1) | 1 => (c, 2)
  | 2 => (py c, 1) | 3 => (py c, 3) | 4 => (py c, 4)
  | 5 => (pz c, 2) | 6 => (pz c, 5) | 7 => (pz c, 6)

theorem hs_inj (c : Dev nD) (b b' : Fin 8) (h : bk (hs c b).1 (hs c b).2 = bk (hs c b').1 (hs c b').2) : b = b' := by
  revert c b b'; decide
theorem hs_surj (c : Dev nD) (p : Fin 4 × Fin 2) : ∃ b, bk (hs c b).1 (hs c b).2 = p := by
  have : ∀ (c : Dev nD) (k : Fin 4) (h : Fin 2), ∃ b, bk (hs c b).1 (hs c b).2 = (k, h) := by decide
  exact this c p.1 p.2

/-- Its element set. -/
def hset (c : Dev nD) (b : Fin 8) : Finset S1024x1024.Idx := (hM (hs c b).1 (hs c b).2).view.set

theorem hset_disj (c : Dev nD) (b b' : Fin 8) (hb : b ≠ b') : Disjoint (hset c b) (hset c b') := by
  refine Finset.disjoint_left.mpr fun i hi hi' => hb (hs_inj c b b' ?_)
  have h := (mem_h _ _ i).mp hi
  have h' := (mem_h _ _ i).mp hi'
  exact Prod.ext (Fin.ext (h.1.symm.trans h'.1)) (Fin.ext (h.2.symm.trans h'.2))

theorem hset_cover (c : Dev nD) : Finset.univ.biUnion (hset c) = Finset.univ := by
  ext i
  refine ⟨fun _ => Finset.mem_univ _, fun _ => ?_⟩
  have h0 : (i 0).val < 1024 := (i 0).isLt
  have h1 : (i 1).val < 1024 := (i 1).isLt
  obtain ⟨b, hb⟩ := hs_surj c (⟨(i 0).val / 256, by omega⟩, ⟨(i 1).val / 512, by omega⟩)
  refine Finset.mem_biUnion.mpr ⟨b, Finset.mem_univ _, (mem_h _ _ i).mpr ?_⟩
  rw [hb]; exact ⟨rfl, rfl⟩

omit [FloatOps F] in
/-- A device's whole result is its eight half blocks. -/
theorem out_halves (c : Dev nD) (f : Buf (Elt F) ((c : Thread nD τ).loc cc0_stg2_0)) :
    (((c : Thread nD τ).loc cc0_stg2_0) ↦{fullShare} f : sProp 𝕄)
      = iprop(hPts c c 1 f ∗ hPts c c 2 f ∗ hPts c (py c) 1 f ∗ hPts c (py c) 3 f ∗ hPts c (py c) 4 f
          ∗ hPts c (pz c) 2 f ∗ hPts c (pz c) 5 f ∗ hPts c (pz c) 6 f) := by
  rw [Ring.pointsTo_blocks (hset c) (fun b b' h => hset_disj c b b' h) (hset_cover c) f,
    bigSep_univ_eq_bigSepL [0, 1, 2, 3, 4, 5, 6, 7] (by decide) (by decide)]
  simp only [bigSepL_cons_cons, bigSepL_singleton]
  unfold hPts
  rfl

omit [FloatOps F] in
/-- Its own row block is two of them. -/
theorem row_halves (c : Dev nD) (f : Buf (Elt F) ((c : Thread nD τ).loc cc0_stg2_0)) :
    (wPts c f : sProp 𝕄) ⊣⊢ iprop(hPts c c 1 f ∗ hPts c c 2 f) := by
  have hu : (wM c).view.set = (hM c 1).view.set ∪ (hM c 2).view.set := by
    ext i
    rw [Finset.mem_union]
    refine (mem_w c i).trans (Iff.trans ?_ (or_congr (mem_h c 1 i) (mem_h c 2 i)).symm)
    show _ ↔ ((i 0).val / 256 = (ko c).val ∧ (i 1).val / 512 = 0) ∨ ((i 0).val / 256 = (ko c).val ∧ (i 1).val / 512 = 1)
    have h1 : (i 1).val < 1024 := (i 1).isLt
    omega
  have hd : Disjoint (hM c 1).view.set (hM c 2).view.set := hset_disj c 0 1 (by decide)
  unfold wPts hPts
  rw [hu]
  exact pointsTo_union hd

/-! ## Contents -/

omit [FloatOps F] in
/-- What a copy within one rectangle lands is what it read. -/
theorem copied (c : Dev nD) (j : Fin 7) (fd f : S1024x1024.Idx → Elt F .f32) (i : S1024x1024.Idx) (hi : i ∈ (hM c j).view.set) :
    (hM c j).view.write (Elt F) fd ((hM c j).view.read (Elt F) f) Finset.univ i = f i := by
  obtain ⟨x, -, rfl⟩ := Finset.mem_map.mp hi
  rw [View.write_emb_of_mem _ _ (Finset.mem_univ x)]; rfl

theorem emb_row (c : Dev nD) (x : S256x1024.Idx) : lo ((rowR c).emb x) = x ∧ (((rowR c).emb x) 0).val / 256 = (ko c).val := by
  have h0 : (((rowR c).emb x) 0).val = 256 * (ko c).val + (x 0).val :=
    (ValueKit.rect_emb_unit_val (s := S1024x1024) (k0_off2 c) S256x1024.size (k0_off2_inb c) x (0 : Fin 2)).trans
      (congrArg (· + (x 0).val) (congrFun (off2_eq c) 0))
  have h1 : (((rowR c).emb x) 1).val = (x 1).val :=
    ((ValueKit.rect_emb_unit_val (s := S1024x1024) (k0_off2 c) S256x1024.size (k0_off2_inb c) x (1 : Fin 2)).trans
      (congrArg (· + (x 1).val) (congrFun (off2_eq c) 1))).trans (Nat.zero_add _)
  have hx : (x 0).val < 256 := (x 0).isLt
  refine ⟨funext fun a => ?_, by omega⟩
  match a with
  | ⟨0, _⟩ => exact Fin.ext (by show (((rowR c).emb x) 0).val % 256 = (x 0).val; omega)
  | ⟨1, _⟩ => exact Fin.ext h1

theorem emb_w (c : Dev nD) (x : S256x1024.Idx) : lo ((wM c).view.emb x) = x := by
  have h0 : (((wM c).view.emb x) 0).val = 256 * (ko c).val + (x 0).val :=
    (ValueKit.rect_emb_unit_val (s := S1024x1024) (k0_off3 c) S256x1024.size (k0_off3_inb c) x (0 : Fin 2)).trans
      (congrArg (· + (x 0).val) (congrFun (off3_eq c) 0))
  have h1 : (((wM c).view.emb x) 1).val = (x 1).val :=
    ((ValueKit.rect_emb_unit_val (s := S1024x1024) (k0_off3 c) S256x1024.size (k0_off3_inb c) x (1 : Fin 2)).trans
      (congrArg (· + (x 1).val) (congrFun (off3_eq c) 1))).trans (Nat.zero_add _)
  have hx : (x 0).val < 256 := (x 0).isLt
  funext a
  match a with
  | ⟨0, _⟩ => exact Fin.ext (by show (((wM c).view.emb x) 0).val % 256 = (x 0).val; omega)
  | ⟨1, _⟩ => exact Fin.ext h1

/-- The stored partial, at the row block; -/
theorem stored_part (c : Dev nD) (f : Buf (Elt F) ((c : Thread nD τ).loc cc0_stg2_0)) (i : S1024x1024.Idx) (hi : i ∈ (wM c).view.set) :
    (oM.access (rowR c)).write (Elt F) f (part m ρ c) Finset.univ i = PART m ρ c i := by
  rw [← acc_set] at hi
  obtain ⟨x, -, rfl⟩ := Finset.mem_map.mp hi
  rw [View.write_emb_of_mem _ _ (Finset.mem_univ x)]
  show part m ρ c x = part m ρ c (lo ((rowR c).emb x))
  rw [(emb_row c x).1]

/-- the stored sum. -/
theorem stored_full (c : Dev nD) (f : Buf (Elt F) ((c : Thread nD τ).loc cc0_stg2_0)) (i : S1024x1024.Idx) (hi : i ∈ (wM c).view.set) :
    (oM.access (rowR c)).write (Elt F) f (full m ρ c) Finset.univ i = OUT m ρ c i := by
  rw [← acc_set] at hi
  obtain ⟨x, -, rfl⟩ := Finset.mem_map.mp hi
  rw [View.write_emb_of_mem _ _ (Finset.mem_univ x)]
  show full m ρ c x = full m ρ (rowDev c ((((rowR c).emb x) 0).val / 256)) (lo ((rowR c).emb x))
  rw [(emb_row c x).1, (emb_row c x).2, rowDev_ko]

/-- What the row block reads as, holding the partial. -/
theorem read_row (c : Dev nD) : oM.view.readAt (Elt F) (rowR c).toLoadRect (PART m ρ c) = part m ρ c := by
  funext x
  show part m ρ c (lo ((rowR c).emb x)) = _
  rw [(emb_row c x).1]

theorem read_w (c : Dev nD) : (wM c).view.read (Elt F) (PART m ρ c) = part m ρ c := by
  funext x
  show part m ρ c (lo ((wM c).view.emb x)) = _
  rw [emb_w]

/-- The landing buffer's rectangle in the load. -/
abbrev landR : Rect S256x1024 := Rect.unit (s := S256x1024) ![0, 0] S256x1024.size inb_S256x1024_S256x1024_0_0

omit [FloatOps F] in
theorem hz : (![0, 0] : Fin 2 → Nat) = fun _ => 0 := funext fun a => by fin_cases a <;> rfl
omit [FloatOps F] in
theorem read_land (c : Dev nD) (f : (cc0_scratch0 : Ref sig .tc).ty.Contents (Elt F)) : rM.view.readAt (Elt F) landR.toLoadRect f = f :=
  Memref.readAt_unit_zero (Elt F) cc0_scratch0 hz _ f

/-- What the first copy lands in the neighbour's landing buffer. -/
theorem landed (c d : Dev nD) (fd : Buf (Elt F) ((d : Thread nD τ).loc cc0_scratch0)) :
    rM.view.write (Elt F) fd ((wM c).view.read (Elt F) (PART m ρ c)) Finset.univ = part m ρ c := by
  rw [read_w]; exact View.write_whole_univ _ _ _

end Cert.Cube

end
-- ==== Proof.Steps.lean ====
/-
# The steps of the exchange

One lemma per kind of step: the first copy, a half block's copy, a wait on a send or on a receive semaphore. A
cell is used once, so the wait that ends its round closes it, and its counter comes back at zero.
-/
module

public import proofs.«01_k».proof.Proof.Geometry

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c` owes `O`, whatever it has waited on. -/
def owing (c : Dev nD) (O : CellTallies nD τ sig Unit) : sProp 𝕄 := iprop(∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Fin 15 → ℕ)

/-- The first copy: `c`'s row block into `px c`'s landing buffer. -/
theorem send_w (c n : Dev nD) (hn : n = pj 0 c) (s s' : DmaSem sig) (hs : s = sq 0) (hs' : s' = rq 0) (l : List (Fin 7))
    {hsc : (rM : Memref sig (Dev.tc n : Thread nD τ).2.kind .vmem S256x1024 .f32).view.ref.isScScratch = false}
    {hsrc : (wM c).view.WordExact} {hdst : rM.view.WordExact}
    {hsem : DmaTarget.Typed .vmem (.dma s') (.remote (Dev.tc n : Thread nD τ) rM (.dma s) hsc)}
    {α : Type} {Q : α → sProp 𝕄} {k : PUnit → Prog (TpuEff nD τ sig (Elt F) Λ₀ .tc) α} :
    iprop(records m ρ K ∗ wPts c (PART m ρ c) ∗ rAny (px c) ∗ owing c (owedR c (0 :: l))
        ∗ dutyTok ER (sndCell 0 c) 0 0 ∗ dutyTok ER (rcvCell 0 (pj 0 c)) 0 0)
      ⊢ iprop(((cred (tallyAt (sndCell 0 c) () (NN 0)) ∗ owing c (owedR c l)) -∗ WP c (k ⟨⟩) Q)
          -∗ WP c (.op (.enqueueDma (wM c) (.remote (Dev.tc n : Thread nD τ) rM (.dma s) hsc) (.dma s') hsrc hdst hsem) k) Q) := by
  subst hn hs hs'
  unfold owing rAny
  iintro ⟨#HR, Hw, ⟨%fd, Hr⟩, ⟨%W, HO⟩, Hts, Htr⟩ Hk
  unfold wPts rPts
  iapply (Rounds.wp_send_pointsTo 𝒱₀ ER (rd m ρ) (c : Thread nD τ) none (κ₁ := K (c, ks 0)) (κ₂ := K (pj 0 c, kr 0))
    (r₁ := 0) (r₂ := 0) (d₁ := 0) (d₂ := 0) (fd := fd)
    (by rw [duties_snd]; exact Finset.mem_singleton_self _) (by rw [duties_rcv]; exact Finset.mem_singleton_self _)
    () () (NN 0) rfl (amount_snd m ρ 0 c 0) (amount_rcv m ρ 0 (pj 0 c) 0) (owedR c l) rfl (W := W)
    (by rw [payload_snd]; unfold sndPay; rw [if_pos rfl]; exact BI.Entails.refl _)
    (by rw [payload_rcv]; unfold rcvPay; rw [if_pos rfl]; unfold rPts; rw [landed, show px (pj 0 c) = c from px_px c])) $$ [Hw Hr HO Hts Htr]
  · isplitr; · iapply (rec_inv m ρ K c (ks 0) _ (csem_ks 0)); iexact HR
    isplitr; · iapply (rec_inv m ρ K (pj 0 c) (kr 0) _ (csem_kr 0)); iexact HR
    isplitl [Hw]; · iexact Hw
    isplitl [Hr]; · iexact Hr
    isplitl [HO]; · iexact HO
    isplitl [Hts]; · iexact Hts
    isplitr; · iapply (rec_reached m ρ K c (ks 0) _ (csem_ks 0)); iexact HR
    isplitl [Htr]; · iexact Htr
    iapply (rec_reached m ρ K (pj 0 c) (kr 0) _ (csem_kr 0)); iexact HR
  iintro ⟨HcS, HO⟩
  iapply Hk
  isplitl [HcS]; · iexact HcS
  iexists W; iexact HO

/-- A half block's copy, to the neighbour `pj j c`, within one rectangle of both results. -/
theorem send_h (j : Fin 7) (hj : j ≠ 0) (c n : Dev nD) (hn : n = pj j c) (s s' : DmaSem sig) (hs : s = sq j) (hs' : s' = rq j) (l : List (Fin 7))
    {hsc : (hM c j : Memref sig (Dev.tc n : Thread nD τ).2.kind .vmem S256x512 .f32).view.ref.isScScratch = false}
    {hsrc hdst : (hM c j).view.WordExact}
    {hsem : DmaTarget.Typed .vmem (.dma s') (.remote (Dev.tc n : Thread nD τ) (hM c j) (.dma s) hsc)}
    {α : Type} {Q : α → sProp 𝕄} {k : PUnit → Prog (TpuEff nD τ sig (Elt F) Λ₀ .tc) α} :
    iprop(records m ρ K ∗ hPts c c j (OUT m ρ c) ∗ hAny (pj j c) c j ∗ owing c (owedR c (j :: l))
        ∗ dutyTok ER (sndCell j c) 0 0 ∗ dutyTok ER (rcvCell j (pj j c)) 0 0)
      ⊢ iprop(((cred (tallyAt (sndCell j c) () (NN j)) ∗ owing c (owedR c l)) -∗ WP c (k ⟨⟩) Q)
          -∗ WP c (.op (.enqueueDma (hM c j) (.remote (Dev.tc n : Thread nD τ) (hM c j) (.dma s) hsc) (.dma s') hsrc hdst hsem) k) Q) := by
  subst hn hs hs'
  unfold owing hAny
  iintro ⟨#HR, Hw, ⟨%fd, Hr⟩, ⟨%W, HO⟩, Hts, Htr⟩ Hk
  unfold hPts
  iapply (Rounds.wp_send_pointsTo 𝒱₀ ER (rd m ρ) (c : Thread nD τ) none (κ₁ := K (c, ks j)) (κ₂ := K (pj j c, kr j))
    (r₁ := 0) (r₂ := 0) (d₁ := 0) (d₂ := 0) (fd := fd)
    (by rw [duties_snd]; exact Finset.mem_singleton_self _) (by rw [duties_rcv]; exact Finset.mem_singleton_self _)
    () () (NN j) (by unfold NN; rw [if_neg hj]) (amount_snd m ρ j c 0) (amount_rcv m ρ j (pj j c) 0) (owedR c l) rfl (W := W)
    (by rw [payload_snd]; unfold sndPay; rw [if_neg hj]; exact BI.Entails.refl _)
    (by
      rw [payload_rcv]; unfold rcvPay; rw [if_neg hj, pj_pj]; unfold hPts
      exact Entails.of_eq (pointsTo_congr fun i hi => (copied c j fd (OUT m ρ c) i hi).trans (OUT_pj m ρ j hj c i).symm))) $$ [Hw Hr HO Hts Htr]
  · isplitr; · iapply (rec_inv m ρ K c (ks j) _ (csem_ks j)); iexact HR
    isplitr; · iapply (rec_inv m ρ K (pj j c) (kr j) _ (csem_kr j)); iexact HR
    isplitl [Hw]; · iexact Hw
    isplitl [Hr]; · iexact Hr
    isplitl [HO]; · iexact HO
    isplitl [Hts]; · iexact Hts
    isplitr; · iapply (rec_reached m ρ K c (ks j) _ (csem_ks j)); iexact HR
    isplitl [Htr]; · iexact Htr
    iapply (rec_reached m ρ K (pj j c) (kr j) _ (csem_kr j)); iexact HR
  iintro ⟨HcS, HO⟩
  iapply Hk
  isplitl [HcS]; · iexact HcS
  iexists W; iexact HO

/-- A wait for the one round of a transfer's cell: the round's payload, and the cell closed. -/
theorem wait_cell (c : Dev nD) (k' : Fin 15) (q : DmaSem sig) (hk' : csem k' = .dma q) (pay : sProp 𝕄) (N : ℕ)
    (hpay : bigSep ((rd (F := F) m ρ).duties ((c : Thread nD τ), .dma q) 0 \ ∅) (fun d => (rd (F := F) m ρ).payload ((c : Thread nD τ), .dma q) 0 d) = pay)
    (hexp : (rd (F := F) m ρ).expect ((c : Thread nD τ), .dma q) 0 = N)
    (l : List (Fin 7)) (hl : ∀ j ∈ l, slv (.dma q) < slv (.dma (rq j)))
    {sh sh' : Shape} {e e' : EltTy} {sp sp' : Space} {src : Memref sig .tc sp' sh' e'} {dst : Memref sig .tc sp sh e}
    {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ levAts L lv ∗ cred (tallyAt ((c : Thread nD τ), .dma q) () N) ∗ owing c (owedR c l) ∗ atPos ER ((c : Thread nD τ), .dma q) 0 ∅ 0)
      ⊢ iprop(((owing c (owedR c l) ∗ pay ∗ semVal ((c : Thread nD τ), .dma q) 0) -∗ WP c (k ⟨⟩) Q)
          -∗ WP c (.op (.waitDma2 q src dst hsrc hdst) k) Q) := by
  subst hN hpay
  unfold owing
  iintro ⟨#HR, #Hlev, Hc, ⟨%W, HO⟩, Hat⟩ Hk
  ihave #HI := (rec_inv m ρ K c k' _ hk') $$ HR
  iapply (Rounds.wp_wait_rest_token 𝒱₀ ER (rd m ρ) (c : Thread nD τ) none (κ := K (c, k'))
      (wpE_waitDma2_eq 𝒱₀ (c : Thread nD τ) none Set.univ) (Set.mem_univ _) () (O := owedR c l) (W := W) (R := 0) (m := 0) (T := ∅)
      (by rw [Nat.zero_add, hexp])) $$ [Hc HO Hat]
  · isplitr; · iexact HI
    isplitl [Hc]; · iexact Hc
    isplitl [HO]; · iexact HO
    isplitr; · iapply (mayWait_owedR c (.dma q) l hl); iexact Hlev
    iexact Hat
  iintro ⟨HO, Hat, -, Hpay⟩
  imod (Rounds.cell_close ER (rd m ρ) (Set.mem_univ (K (c, k'))) (fun h => h) (R := 0 + 1) (duties_later m ρ _)) $$ [Hat] with Hz
  · isplitr; · iexact HI
    iexact Hat
  iapply Hk
  isplitl [HO]; · iexists _; iexact HO
  isplitl [Hpay]; · iexact Hpay
  iexact Hz

/-- The wait on the send semaphore of the copy `j`: its source comes back. -/
theorem wait_snd (j : Fin 7) (c : Dev nD) (s : DmaSem sig) (hs : s = sq j) (l : List (Fin 7)) (hl : ∀ i ∈ l, slv (.dma (sq j)) < slv (.dma (rq i)))
    {sh sh' : Shape} {e e' : EltTy} {sp sp' : Space} {src : Memref sig .tc sp' sh' e'} {dst : Memref sig .tc sp sh e}
    {hsrc : src.view.WordExact} {hdst : dst.view.WordExact} (hN : dst.view.dmaCredit = NN j)
    {α : Type} {Q : α → sProp 𝕄} {k : PUnit → Prog (TpuEff nD τ sig (Elt F) Λ₀ .tc) α} :
    iprop(records m ρ K ∗ levAts L lv ∗ cred (tallyAt (sndCell j c) () (NN j)) ∗ owing c (owedR c l) ∗ atPos ER (sndCell j c) 0 ∅ 0)
      ⊢ iprop(((owing c (owedR c l) ∗ sndPay m ρ j c ∗ semVal (sndCell j c) 0) -∗ WP c (k ⟨⟩) Q)
          -∗ WP c (.op (.waitDma2 s src dst hsrc hdst) k) Q) := by
  subst hs
  exact wait_cell m ρ K c (ks j) (sq j) (csem_ks j) _ _ (rest_snd m ρ j c) (expect_snd m ρ j c) l hl hN

/-- The wait on its receive semaphore: the destination comes, holding what the neighbour sent. -/
theorem wait_rcv (j : Fin 7) (c : Dev nD) (s : DmaSem sig) (hs : s = rq j) (l : List (Fin 7)) (hl : ∀ i ∈ l, slv (.dma (rq j)) < slv (.dma (rq i)))
    {sh sh' : Shape} {e e' : EltTy} {sp sp' : Space} {src : Memref sig .tc sp' sh' e'} {dst : Memref sig .tc sp sh e}
    {hsrc : src.view.WordExact} {hdst : dst.view.WordExact} (hN : dst.view.dmaCredit = NN j)
    {α : Type} {Q : α → sProp 𝕄} {k : PUnit → Prog (TpuEff nD τ sig (Elt F) Λ₀ .tc) α} :
    iprop(records m ρ K ∗ levAts L lv ∗ cred (tallyAt (rcvCell j c) () (NN j)) ∗ owing c (owedR c l) ∗ atPos ER (rcvCell j c) 0 ∅ 0)
      ⊢ iprop(((owing c (owedR c l) ∗ rcvPay m ρ j c ∗ semVal (rcvCell j c) 0) -∗ WP c (k ⟨⟩) Q)
          -∗ WP c (.op (.waitDma2 s src dst hsrc hdst) k) Q) := by
  subst hs
  exact wait_cell m ρ K c (kr j) (rq j) (csem_kr j) _ _ (rest_rcv m ρ j c) (expect_rcv m ρ j c) l hl hN

/-- The wait on the send semaphore of a half block's copy. -/
theorem wait_snd_h (j : Fin 7) (hj : j ≠ 0) (c : Dev nD) (s : DmaSem sig) (hs : s = sq j) (l : List (Fin 7)) (hl : ∀ i ∈ l, slv (.dma (sq j)) < slv (.dma (rq i)))
    (hsrc hdst : (hM c j).view.WordExact)
    {α : Type} {Q : α → sProp 𝕄} {k : PUnit → Prog (TpuEff nD τ sig (Elt F) Λ₀ .tc) α} :
    iprop(records m ρ K ∗ levAts L lv ∗ cred (tallyAt (sndCell j c) () (NN j)) ∗ owing c (owedR c l) ∗ atPos ER (sndCell j c) 0 ∅ 0)
      ⊢ iprop(((owing c (owedR c l) ∗ sndPay m ρ j c ∗ semVal (sndCell j c) 0) -∗ WP c (k ⟨⟩) Q)
          -∗ WP c (.op (.waitDma2 s (hM c j) (hM c j) hsrc hdst) k) Q) :=
  wait_snd m ρ K j c s hs l hl (by unfold NN; rw [if_neg hj])

/-- The wait on the receive semaphore of a half block's copy. -/
theorem wait_rcv_h (j : Fin 7) (hj : j ≠ 0) (c : Dev nD) (s : DmaSem sig) (hs : s = rq j) (l : List (Fin 7)) (hl : ∀ i ∈ l, slv (.dma (rq j)) < slv (.dma (rq i)))
    (hsrc hdst : (hM c j).view.WordExact)
    {α : Type} {Q : α → sProp 𝕄} {k : PUnit → Prog (TpuEff nD τ sig (Elt F) Λ₀ .tc) α} :
    iprop(records m ρ K ∗ levAts L lv ∗ cred (tallyAt (rcvCell j c) () (NN j)) ∗ owing c (owedR c l) ∗ atPos ER (rcvCell j c) 0 ∅ 0)
      ⊢ iprop(((owing c (owedR c l) ∗ rcvPay m ρ j c ∗ semVal (rcvCell j c) 0) -∗ WP c (k ⟨⟩) Q)
          -∗ WP c (.op (.waitDma2 s (hM c j) (hM c j) hsrc hdst) k) Q) :=
  wait_rcv m ρ K j c s hs l hl (by unfold NN; rw [if_neg hj])

end Cert.Cube

end
-- ==== Proof.Body.lean ====
/-
# The kernel body on one device

From the launch's share — the staged operands, the result's staging buffer, the landing buffer, the device's
positions, tokens and credit — the body runs to the result's contents `OUT`, with every cell closed.
-/
module

public import proofs.«01_k».proof.Proof.Steps

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sndPay_w (c : Dev nD) : sndPay m ρ 0 c = wPts c (PART m ρ c) := by unfold sndPay; exact if_pos rfl
theorem sndPay_h (j : Fin 7) (hj : j ≠ 0) (c : Dev nD) : sndPay m ρ j c = hPts c c j (OUT m ρ c) := by unfold sndPay; exact if_neg hj
theorem rcvPay_w (c : Dev nD) : rcvPay m ρ 0 c = rPts c (part m ρ (px c)) := by unfold rcvPay; exact if_pos rfl
theorem rcvPay_h (j : Fin 7) (hj : j ≠ 0) (c : Dev nD) : rcvPay m ρ j c = hPts c (pj j c) j (OUT m ρ c) := by unfold rcvPay; exact if_neg hj

/-- What the waits' destinations count. -/
theorem nn0 : N0 = NN 0 := by unfold NN; rw [if_pos rfl]

/-- A half block at given contents is one at some contents. -/
theorem any_h (d c : Dev nD) (j : Fin 7) (f : Buf (Elt F) ((d : Thread nD τ).loc cc0_stg2_0)) : (hPts d c j f : sProp 𝕄) ⊢ hAny d c j := by
  unfold hAny; iintro H; iexists f; iexact H

omit [FloatOps F] in
/-- What the `z` neighbour's copy 2 wrote is what the device's copy 4 sends on; -/
theorem fwd4 (c : Dev nD) (f : Buf (Elt F) ((c : Thread nD τ).loc cc0_stg2_0)) : (hPts c (pz c) 2 f : sProp 𝕄) = hPts c c 4 f := by
  have h : (hM (pz c) 2).view.set = (hM c 4).view.set := Finset.ext fun i => (mem_h (pz c) 2 i).trans (mem_h c 4 i).symm
  unfold hPts; rw [h]
omit [FloatOps F] in
/-- what the `y` neighbour's copy 1 wrote, its copy 6. -/
theorem fwd6 (c : Dev nD) (f : Buf (Elt F) ((c : Thread nD τ).loc cc0_stg2_0)) : (hPts c (py c) 1 f : sProp 𝕄) = hPts c c 6 f := by
  have h : (hM (py c) 1).view.set = (hM c 6).view.set := Finset.ext fun i => (mem_h (py c) 1 i).trans (mem_h c 6 i).symm
  unfold hPts; rw [h]
omit [FloatOps F] in
/-- Copies 3 and 5 send the device's own two half blocks. -/
theorem same3 (c : Dev nD) (f : Buf (Elt F) ((c : Thread nD τ).loc cc0_stg2_0)) : (hPts c c 2 f : sProp 𝕄) = hPts c c 3 f := rfl
omit [FloatOps F] in
theorem same5 (c : Dev nD) (f : Buf (Elt F) ((c : Thread nD τ).loc cc0_stg2_0)) : (hPts c c 1 f : sProp 𝕄) = hPts c c 5 f := rfl

omit [FloatOps F] in
/-- Loads and stores of the row block touch its elements only. -/
theorem acc_load (c : Dev nD) : oM.view.setOn (rowR c).toLoadRect.set ⊆ (wM c).view.set := by
  have h := (acc_set c).subset
  rwa [View.set_slice] at h
omit [FloatOps F] in
theorem acc_store (c : Dev nD) : (oM.access (rowR c)).setOn Finset.univ ⊆ (wM c).view.set := by
  rw [View.setOn_univ]; exact (acc_set c).subset

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Fin 15 → ℕ)

/-- What the body starts from, -/
def bodyPre (c : Dev nD) : sProp 𝕄 :=
  iprop((ghost m ρ K c ∗ credits c ∗ levAts L lv ∗ rAny c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it leaves. -/
def bodyPost (c : Dev nD) : sProp 𝕄 :=
  iprop(Φ₁ c ∗ (dats m ρ 0 c).owesAt () t0_0.succ ∗ stg c cc0_stg0_0 (idsStg m ρ c) ∗ stg c cc0_stg1_0 (tabStg m ρ c)
    ∗ stg c cc0_stg2_0 (OUT m ρ c))

/-- The kernel body at its staging buffers. -/
abbrev kbody : Prog (TpuEff nD τ sig (Elt F) Λ₀ .tc) PUnit :=
  cc0_body (Memref.whole cc0_stg0_0) (Memref.isWhole_whole _) (Memref.whole cc0_stg1_0) (Memref.isWhole_whole _) (Memref.whole cc0_stg2_0)
    (Memref.isWhole_whole _) (Memref.whole cc0_scratch0) (Memref.isWhole_whole _) cc0_scratch1 cc0_scratch2

set_option maxHeartbeats 3200000 in
/-- The body runs from `bodyPre` to `bodyPost`, an operation at a time. -/
theorem sound_body (c : Dev nD) (Kt : PUnit → sProp 𝕄) :
    iprop(bodyPre m ρ K c ∗ (bodyPost m ρ c -∗ Kt ⟨⟩)) ⊢ WP c (kbody (F := F)) Kt := by
  unfold kbody WP
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost poss payToks credits
  simp only [bigSep_fin7, bigSep_fin3]
  iintro ⟨⟨⟨⟨#HR, ⟨HaB, ⟨HaS0, HaS1, HaS2, HaS3, HaS4, HaS5, HaS6⟩, HaR0, HaR1, HaR2, HaR3, HaR4, HaR5, HaR6⟩,
      ⟨HtB0, HtB1, HtB2⟩, ⟨HtS0, HtS1, HtS2, HtS3, HtS4, HtS5, HtS6⟩, HtR0, HtR1, HtR2, HtR3, HtR4, HtR5, HtR6⟩,
      ⟨HcB, HcR0, HcR1, HcR2, HcR3, HcR4, HcR5, HcR6⟩, #Hlev, Hland⟩,
    Ho, ⟨%d0, %g0, %hg0, Hi⟩, ⟨%d1, %g1, %hg1, He⟩, ⟨%d2, %g2, %hg2, Hout⟩⟩, Hk⟩
  have hi : g0 = idsStg m ρ c := by rw [hg0]; unfold Dat.before; rw [if_pos (fetch0_0 t0_0)]; rfl
  have he : g1 = tabStg m ρ c := by rw [hg1]; unfold Dat.before; rw [if_pos (fetch0_1 t0_0)]; rfl
  subst hi he
  clear hg2
  unfold Dat.owesAt Pipeline.owesWithin
  icases Ho with ⟨%W, %hW, HO⟩
  rw [show (dats m ρ 0 c).owed t0_0.castSucc = O₀ c from rfl]
  simp only [dev1_eq c, dev2_eq c, dev3_eq c]
  -- the result's half blocks: the device's own two, those that its `y` neighbour and its `z` neighbour will write
  ihave Hout := (Entails.of_eq (out_halves c g2)) $$ Hout
  icases Hout with ⟨Ho1, Ho2, Hy1, Hy3, Hy4, Hz2, Hz5, Hz6⟩
  ihave Hw := (row_halves c g2).2 $$ [Ho1 Ho2]
  · isplitl [Ho1] <;> iassumption
  unfold O₀
  -- the unit to the `x` neighbour, with the landing buffer
  iapply (Rounds.wp_signal 𝒱₀ ER (rd m ρ) (c : Thread nD τ) none (dst := (px c : Thread nD τ)) (κ := K (px c, 0))
      (d := 0) (by rw [duties_bar]; exact Finset.mem_univ _) ((amount_bar m ρ (px c) 0).trans (by decide)) () _ rfl)
    $$ [HO HtB0 Hland]
  · isplitr; · iapply (rec_inv m ρ K (px c) 0 _ rfl); iexact HR
    isplitl [HO]; · iexact HO
    isplitl [HtB0]; · iexact HtB0
    isplitl [Hland]
    · rw [payload_bar]; unfold barPay; rw [px_px]; iexact Hland
    iapply (rec_reached m ρ K (px c) 0 _ rfl); iexact HR
  iintro HO
  -- the unit to the `y` neighbour, with the half blocks that it will write
  iapply (Rounds.wp_signal 𝒱₀ ER (rd m ρ) (c : Thread nD τ) none (dst := (py c : Thread nD τ)) (κ := K (py c, 0))
      (d := 1) (by rw [duties_bar]; exact Finset.mem_univ _) ((amount_bar m ρ (py c) 1).trans (by decide)) () _ rfl)
    $$ [HO HtB1 Hy1 Hy3 Hy4]
  · isplitr; · iapply (rec_inv m ρ K (py c) 0 _ rfl); iexact HR
    isplitl [HO]; · iexact HO
    isplitl [HtB1]; · iexact HtB1
    isplitl [Hy1 Hy3 Hy4]
    · rw [payload_bar]; unfold barPay; rw [py_py]
      isplitl [Hy1]; · iapply (any_h c (py c) 1 g2); iexact Hy1
      isplitl [Hy3]; · iapply (any_h c (py c) 3 g2); iexact Hy3
      iapply (any_h c (py c) 4 g2); iexact Hy4
    iapply (rec_reached m ρ K (py c) 0 _ rfl); iexact HR
  iintro HO
  -- the unit to the `z` neighbour, likewise
  iapply (Rounds.wp_signal 𝒱₀ ER (rd m ρ) (c : Thread nD τ) none (dst := (pz c : Thread nD τ)) (κ := K (pz c, 0))
      (d := 2) (by rw [duties_bar]; exact Finset.mem_univ _) ((amount_bar m ρ (pz c) 2).trans (by decide)) () _ rfl)
    $$ [HO HtB2 Hz2 Hz5 Hz6]
  · isplitr; · iapply (rec_inv m ρ K (pz c) 0 _ rfl); iexact HR
    isplitl [HO]; · iexact HO
    isplitl [HtB2]; · iexact HtB2
    isplitl [Hz2 Hz5 Hz6]
    · rw [payload_bar]; unfold barPay; rw [pz_pz]
      isplitl [Hz2]; · iapply (any_h c (pz c) 2 g2); iexact Hz2
      isplitl [Hz5]; · iapply (any_h c (pz c) 5 g2); iexact Hz5
      iapply (any_h c (pz c) 6 g2); iexact Hz6
    iapply (rec_reached m ρ K (pz c) 0 _ rfl); iexact HR
  iintro HO
  -- the wait for the three neighbours' units: the destinations of the copies
  iapply (Rounds.wp_wait_rest_token 𝒱₀ ER (rd m ρ) (c : Thread nD τ) none (κ := K (c, 0))
      (wpE_semWait_eq 𝒱₀ (c : Thread nD τ) none Set.univ) (Set.mem_univ _) () (O := owedR c l0) (W := W) (R := 0) (m := 0) (T := ∅)
      (by rw [expect_bar]; decide)) $$ [HcB HO HaB]
  · isplitr; · iapply (rec_inv m ρ K c 0 _ rfl); iexact HR
    isplitl [HcB]; · iexact HcB
    isplitl [HO]; · iexact HO
    isplitr; · iapply (mayWait_owedR c (.reg barS) l0 (by decide)); iexact Hlev
    iexact HaB
  iintro ⟨HO, HaB, -, Hpay⟩
  ihave Hp := (Entails.of_eq (rest_bar m ρ c)) $$ Hpay
  unfold barPay
  icases Hp with ⟨Hpx, ⟨Hpy1, Hpy3, Hpy4⟩, Hpz2, Hpz5, Hpz6⟩
  ihave HO := (show (owes (c : Thread nD τ) (owedR c l0) (insert (SemLoc.reg barS, ()) W) : sProp 𝕄) ⊢ owing c (owedR c l0) from by
    unfold owing; iintro H; iexists _; iexact H) $$ HO
  imod (Rounds.cell_close ER (rd m ρ) (Set.mem_univ (K (c, 0))) (fun h => h) (R := 0 + 1) (duties_later m ρ (barCell c))) $$ [HaB] with HzB
  · isplitr; · iapply (rec_inv m ρ K c 0 _ rfl); iexact HR
    iexact HaB
  -- the partial lookup of the row block
  iapply (wp_load 𝒱₀ (c : Thread nD τ) none Set.univ (m := iM) (Finset.subset_univ _)) $$ Hi; iintro Hi
  iapply (wp_load 𝒱₀ (c : Thread nD τ) none Set.univ (m := eM) (Finset.subset_univ _)) $$ He; iintro He
  unfold wPts
  iapply (wp_load 𝒱₀ (c : Thread nD τ) none Set.univ (m := oM) (r := (rowR c).toLoadRect) (acc_load c)) $$ Hw; iintro Hw
  iapply (wp_store 𝒱₀ (c : Thread nD τ) none Set.univ (m := oM) (r := rowR c) (Mk := Finset.univ) (acc_store c)) $$ Hw; iintro Hw
  ihave Hw := (Entails.of_eq (pointsTo_congr (stored_part m ρ c _))) $$ Hw
  -- copy 0
  iapply (send_w m ρ K c _ (dev4_eq c) _ _ sem_s0 sem_r0 l1) $$ [Hw Hpx HO HtS0 HtR0]
  · isplitr; · iexact HR
    isplitl [Hw]; · unfold wPts; iexact Hw
    isplitl [Hpx]; · iexact Hpx
    isplitl [HO]; · iexact HO
    isplitl [HtS0]; · iexact HtS0
    iexact HtR0
  iintro ⟨HcS0, HO⟩
  iapply (wait_snd m ρ K 0 c _ sem_s0 l1 (by decide) (dst := wM c) ((credit_w c).trans nn0)) $$ [HO HcS0 HaS0]
  · isplitr; · iexact HR
    isplitr; · iexact Hlev
    isplitl [HcS0]; · iexact HcS0
    isplitl [HO]; · iexact HO
    iexact HaS0
  iintro ⟨HO, Hw, HzS0⟩
  ihave Hw := (Entails.of_eq (sndPay_w m ρ c)) $$ Hw
  iapply (wait_rcv m ρ K 0 c _ sem_r0 l1 (by decide) (dst := rM) nn0) $$ [HO HcR0 HaR0]
  · isplitr; · iexact HR
    isplitr; · iexact Hlev
    isplitl [HcR0]; · iexact HcR0
    isplitl [HO]; · iexact HO
    iexact HaR0
  iintro ⟨HO, Hr, HzR0⟩
  ihave Hr := (Entails.of_eq (rcvPay_w m ρ c)) $$ Hr
  -- the sum
  unfold wPts rPts
  iapply (wp_load 𝒱₀ (c : Thread nD τ) none Set.univ (m := oM) (r := (rowR c).toLoadRect) (acc_load c)) $$ Hw; iintro Hw
  rw [read_row]
  iapply (wp_load 𝒱₀ (c : Thread nD τ) none Set.univ (m := rM) (by rw [View.set_whole]; exact Finset.subset_univ _)) $$ Hr; iintro Hr
  rw [read_land c]
  iapply (wp_load 𝒱₀ (c : Thread nD τ) none Set.univ (m := oM) (r := (rowR c).toLoadRect) (acc_load c)) $$ Hw; iintro Hw
  iapply (wp_store 𝒱₀ (c : Thread nD τ) none Set.univ (m := oM) (r := rowR c) (Mk := Finset.univ) (acc_store c)) $$ Hw; iintro Hw
  ihave Hw := (Entails.of_eq (pointsTo_congr (stored_full m ρ c _))) $$ Hw
  ihave Hw := (row_halves c (OUT m ρ c)).1 $$ [Hw]
  · unfold wPts; iexact Hw
  icases Hw with ⟨Ho1, Ho2⟩
  -- copy 1
  iapply (send_h m ρ K 1 (by decide) c _ (dev5_eq c) _ _ sem_s1 sem_r1 [2, 3, 4, 5, 6]) $$ [Ho1 Hpy1 HO HtS1 HtR1]
  · isplitr; · iexact HR
    isplitl [Ho1]; · iexact Ho1
    isplitl [Hpy1]; · iexact Hpy1
    isplitl [HO]; · iexact HO
    isplitl [HtS1]; · iexact HtS1
    iexact HtR1
  iintro ⟨HcS1, HO⟩
  -- copy 2
  iapply (send_h m ρ K 2 (by decide) c _ (dev6_eq c) _ _ sem_s2 sem_r2 [3, 4, 5, 6]) $$ [Ho2 Hpz2 HO HtS2 HtR2]
  · isplitr; · iexact HR
    isplitl [Ho2]; · iexact Ho2
    isplitl [Hpz2]; · iexact Hpz2
    isplitl [HO]; · iexact HO
    isplitl [HtS2]; · iexact HtS2
    iexact HtR2
  iintro ⟨HcS2, HO⟩
  iapply (wait_snd_h m ρ K 1 (by decide) c _ sem_s1 l3 (by decide) (View.wordExact_bits rfl) (View.wordExact_bits rfl)) $$ [HO HcS1 HaS1]
  · isplitr; · iexact HR
    isplitr; · iexact Hlev
    isplitl [HcS1]; · iexact HcS1
    isplitl [HO]; · iexact HO
    iexact HaS1
  iintro ⟨HO, Ho1, HzS1⟩
  ihave Ho1 := (Entails.of_eq (sndPay_h m ρ 1 (by decide) c)) $$ Ho1
  iapply (wait_rcv_h m ρ K 1 (by decide) c _ sem_r1 l3 (by decide) (View.wordExact_bits rfl) (View.wordExact_bits rfl)) $$ [HO HcR1 HaR1]
  · isplitr; · iexact HR
    isplitr; · iexact Hlev
    isplitl [HcR1]; · iexact HcR1
    isplitl [HO]; · iexact HO
    iexact HaR1
  iintro ⟨HO, Hy1, HzR1⟩
  ihave Hy1 := (Entails.of_eq ((rcvPay_h m ρ 1 (by decide) c).trans (show _ = hPts c (py c) 1 (OUT m ρ c) from rfl))) $$ Hy1
  iapply (wait_snd_h m ρ K 2 (by decide) c _ sem_s2 l3 (by decide) (View.wordExact_bits rfl) (View.wordExact_bits rfl)) $$ [HO HcS2 HaS2]
  · isplitr; · iexact HR
    isplitr; · iexact Hlev
    isplitl [HcS2]; · iexact HcS2
    isplitl [HO]; · iexact HO
    iexact HaS2
  iintro ⟨HO, Ho2, HzS2⟩
  ihave Ho2 := (Entails.of_eq (sndPay_h m ρ 2 (by decide) c)) $$ Ho2
  iapply (wait_rcv_h m ρ K 2 (by decide) c _ sem_r2 l3 (by decide) (View.wordExact_bits rfl) (View.wordExact_bits rfl)) $$ [HO HcR2 HaR2]
  · isplitr; · iexact HR
    isplitr; · iexact Hlev
    isplitl [HcR2]; · iexact HcR2
    isplitl [HO]; · iexact HO
    iexact HaR2
  iintro ⟨HO, Hz2, HzR2⟩
  ihave Hz2 := (Entails.of_eq ((rcvPay_h m ρ 2 (by decide) c).trans (show _ = hPts c (pz c) 2 (OUT m ρ c) from rfl))) $$ Hz2
  -- the half blocks that came go on: `hM c 4` is where the `z` neighbour's copy 2 landed, `hM c 6` where the `y` neighbour's copy 1 did
  -- copy 3
  ihave Ho2 := (Entails.of_eq (same3 c (OUT m ρ c))) $$ Ho2
  iapply (send_h m ρ K 3 (by decide) c _ (dev7_eq c) _ _ sem_s3 sem_r3 [4, 5, 6]) $$ [Ho2 Hpy3 HO HtS3 HtR3]
  · isplitr; · iexact HR
    isplitl [Ho2]; · iexact Ho2
    isplitl [Hpy3]; · iexact Hpy3
    isplitl [HO]; · iexact HO
    isplitl [HtS3]; · iexact HtS3
    iexact HtR3
  iintro ⟨HcS3, HO⟩
  -- copy 4
  ihave Hz2 := (Entails.of_eq (fwd4 c (OUT m ρ c))) $$ Hz2
  iapply (send_h m ρ K 4 (by decide) c _ (dev8_eq c) _ _ sem_s4 sem_r4 [5, 6]) $$ [Hz2 Hpy4 HO HtS4 HtR4]
  · isplitr; · iexact HR
    isplitl [Hz2]; · iexact Hz2
    isplitl [Hpy4]; · iexact Hpy4
    isplitl [HO]; · iexact HO
    isplitl [HtS4]; · iexact HtS4
    iexact HtR4
  iintro ⟨HcS4, HO⟩
  -- copy 5
  ihave Ho1 := (Entails.of_eq (same5 c (OUT m ρ c))) $$ Ho1
  iapply (send_h m ρ K 5 (by decide) c _ (dev9_eq c) _ _ sem_s5 sem_r5 [6]) $$ [Ho1 Hpz5 HO HtS5 HtR5]
  · isplitr; · iexact HR
    isplitl [Ho1]; · iexact Ho1
    isplitl [Hpz5]; · iexact Hpz5
    isplitl [HO]; · iexact HO
    isplitl [HtS5]; · iexact HtS5
    iexact HtR5
  iintro ⟨HcS5, HO⟩
  -- copy 6
  ihave Hy1 := (Entails.of_eq (fwd6 c (OUT m ρ c))) $$ Hy1
  iapply (send_h m ρ K 6 (by decide) c _ (dev10_eq c) _ _ sem_s6 sem_r6 []) $$ [Hy1 Hpz6 HO HtS6 HtR6]
  · isplitr; · iexact HR
    isplitl [Hy1]; · iexact Hy1
    isplitl [Hpz6]; · iexact Hpz6
    isplitl [HO]; · iexact HO
    isplitl [HtS6]; · iexact HtS6
    iexact HtR6
  iintro ⟨HcS6, HO⟩
  iapply (wait_snd_h m ρ K 3 (by decide) c _ sem_s3 [] (by decide) (View.wordExact_bits rfl) (View.wordExact_bits rfl)) $$ [HO HcS3 HaS3]
  · isplitr; · iexact HR
    isplitr; · iexact Hlev
    isplitl [HcS3]; · iexact HcS3
    isplitl [HO]; · iexact HO
    iexact HaS3
  iintro ⟨HO, Ho2, HzS3⟩
  ihave Ho2 := (Entails.of_eq ((sndPay_h m ρ 3 (by decide) c).trans (same3 c (OUT m ρ c)).symm)) $$ Ho2
  iapply (wait_rcv_h m ρ K 3 (by decide) c _ sem_r3 [] (by decide) (View.wordExact_bits rfl) (View.wordExact_bits rfl)) $$ [HO HcR3 HaR3]
  · isplitr; · iexact HR
    isplitr; · iexact Hlev
    isplitl [HcR3]; · iexact HcR3
    isplitl [HO]; · iexact HO
    iexact HaR3
  iintro ⟨HO, Hy3, HzR3⟩
  ihave Hy3 := (Entails.of_eq ((rcvPay_h m ρ 3 (by decide) c).trans (show _ = hPts c (py c) 3 (OUT m ρ c) from rfl))) $$ Hy3
  iapply (wait_snd_h m ρ K 4 (by decide) c _ sem_s4 [] (by decide) (View.wordExact_bits rfl) (View.wordExact_bits rfl)) $$ [HO HcS4 HaS4]
  · isplitr; · iexact HR
    isplitr; · iexact Hlev
    isplitl [HcS4]; · iexact HcS4
    isplitl [HO]; · iexact HO
    iexact HaS4
  iintro ⟨HO, Hz2, HzS4⟩
  ihave Hz2 := (Entails.of_eq ((sndPay_h m ρ 4 (by decide) c).trans (fwd4 c (OUT m ρ c)).symm)) $$ Hz2
  iapply (wait_rcv_h m ρ K 4 (by decide) c _ sem_r4 [] (by decide) (View.wordExact_bits rfl) (View.wordExact_bits rfl)) $$ [HO HcR4 HaR4]
  · isplitr; · iexact HR
    isplitr; · iexact Hlev
    isplitl [HcR4]; · iexact HcR4
    isplitl [HO]; · iexact HO
    iexact HaR4
  iintro ⟨HO, Hy4, HzR4⟩
  ihave Hy4 := (Entails.of_eq ((rcvPay_h m ρ 4 (by decide) c).trans (show _ = hPts c (py c) 4 (OUT m ρ c) from rfl))) $$ Hy4
  iapply (wait_snd_h m ρ K 5 (by decide) c _ sem_s5 [] (by decide) (View.wordExact_bits rfl) (View.wordExact_bits rfl)) $$ [HO HcS5 HaS5]
  · isplitr; · iexact HR
    isplitr; · iexact Hlev
    isplitl [HcS5]; · iexact HcS5
    isplitl [HO]; · iexact HO
    iexact HaS5
  iintro ⟨HO, Ho1, HzS5⟩
  ihave Ho1 := (Entails.of_eq ((sndPay_h m ρ 5 (by decide) c).trans (same5 c (OUT m ρ c)).symm)) $$ Ho1
  iapply (wait_rcv_h m ρ K 5 (by decide) c _ sem_r5 [] (by decide) (View.wordExact_bits rfl) (View.wordExact_bits rfl)) $$ [HO HcR5 HaR5]
  · isplitr; · iexact HR
    isplitr; · iexact Hlev
    isplitl [HcR5]; · iexact HcR5
    isplitl [HO]; · iexact HO
    iexact HaR5
  iintro ⟨HO, Hz5, HzR5⟩
  ihave Hz5 := (Entails.of_eq ((rcvPay_h m ρ 5 (by decide) c).trans (show _ = hPts c (pz c) 5 (OUT m ρ c) from rfl))) $$ Hz5
  iapply (wait_snd_h m ρ K 6 (by decide) c _ sem_s6 [] (by decide) (View.wordExact_bits rfl) (View.wordExact_bits rfl)) $$ [HO HcS6 HaS6]
  · isplitr; · iexact HR
    isplitr; · iexact Hlev
    isplitl [HcS6]; · iexact HcS6
    isplitl [HO]; · iexact HO
    iexact HaS6
  iintro ⟨HO, Hy1, HzS6⟩
  ihave Hy1 := (Entails.of_eq ((sndPay_h m ρ 6 (by decide) c).trans (fwd6 c (OUT m ρ c)).symm)) $$ Hy1
  iapply (wait_rcv_h m ρ K 6 (by decide) c _ sem_r6 [] (by decide) (View.wordExact_bits rfl) (View.wordExact_bits rfl)) $$ [HO HcR6 HaR6]
  · isplitr; · iexact HR
    isplitr; · iexact Hlev
    isplitl [HcR6]; · iexact HcR6
    isplitl [HO]; · iexact HO
    iexact HaR6
  iintro ⟨HO, Hz6, HzR6⟩
  ihave Hz6 := (Entails.of_eq ((rcvPay_h m ρ 6 (by decide) c).trans (show _ = hPts c (pz c) 6 (OUT m ρ c) from rfl))) $$ Hz6
  unfold WP
  rw [wp_ret]; imodintro
  -- the eight half blocks are the result
  ihave Hout := (Entails.of_eq (out_halves c (OUT m ρ c)).symm) $$ [Ho1 Ho2 Hy1 Hy3 Hy4 Hz2 Hz5 Hz6]
  · isplitl [Ho1]; · iexact Ho1
    isplitl [Ho2]; · iexact Ho2
    isplitl [Hy1]; · iexact Hy1
    isplitl [Hy3]; · iexact Hy3
    isplitl [Hy4]; · iexact Hy4
    isplitl [Hz2]; · iexact Hz2
    isplitl [Hz5]; · iexact Hz5
    iexact Hz6
  iapply Hk
  unfold bodyPost Φ₁ Dat.owesAt Pipeline.owesWithin
  simp only [bigSep_fin7]
  rw [show (dats m ρ 0 c).owed t0_0.succ = 0 from rfl]
  isplitl [Hr HzB HzS0 HzS1 HzS2 HzS3 HzS4 HzS5 HzS6 HzR0 HzR1 HzR2 HzR3 HzR4 HzR5 HzR6]
  · isplitl [Hr]; · unfold rAny rPts; iexists _; iexact Hr
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0 HzR1 HzR2 HzR3 HzR4 HzR5 HzR6]
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
    iexact HzB
  isplitl [HO]
  · unfold owing
    icases HO with ⟨%W', HO⟩
    iexists W'
    isplitr; · ipureintro; exact fun _ _ => Or.inl trivial
    iexact HO
  isplitl [Hi]
  · iexists _; isplitr; · (ipureintro; rfl)
    iexact Hi
  isplitl [He]
  · iexists _; isplitr; · (ipureintro; rfl)
    iexact He
  iexists _; isplitr; · (ipureintro; rfl)
  iexact Hout

/-- What the pipeline gives the body, -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and the obligation it places on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ WP c (kbody (F := F)) (fun _ => bodyPost m ρ c)
  unfold bodyPre' Φ₀ start
  iintro ⟨⟨⟨⟨%K, Hg⟩, Hc, Hl⟩, Hr⟩, Ho, Hi, He, Hout⟩
  iapply (sound_body m ρ K c fun _ => bodyPost m ρ c)
  unfold bodyPre
  isplitr []
  · isplitl [Hg Hc Hl Hr]
    · isplitl [Hg]; · iexact Hg
      isplitl [Hc]; · iexact Hc
      isplitl [Hl]; · iexact Hl
      iexact Hr
    isplitl [Ho]; · iexact Ho
    isplitl [Hi]; · iexact Hi
    isplitl [He] <;> iassumption
  · iintro H; iexact H

end Cert.Cube

end
-- ==== Proof.Launch.lean ====
/-
# The launch

What the launch mints is dealt to the eight devices, each cell's tokens to the device that pays its duties; the
launch's credit is what the neighbours owe; and the eight bodies then run to their ends.
-/
module

public import proofs.«01_k».proof.Proof.Body
public import Idealize.ShloMosaic.Lib.Pipeline.CollectiveSegs

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every device's cells. -/
def allCells : Finset (GSem nD τ sig) := Finset.univ.map ⟨kcell, kcell_injective⟩

/-- A device's duties: its barrier's three, its sends', its receives'. -/
abbrev TI := Fin 3 ⊕ Fin 7 ⊕ Fin 7

def tokSem : TI → SemLoc sig × Fin 3
  | .inl d => (.reg barS, d)
  | .inr (.inl j) => (.dma (sq j), 0)
  | .inr (.inr j) => (.dma (rq j), 0)

theorem tokSem_injective : Function.Injective tokSem := by decide

/-- Their tokens. -/
abbrev tokOf (ct : Dev nD × TI) : GSem nD τ sig × ℕ × Fin 3 := (((ct.1 : Thread nD τ), (tokSem ct.2).1), 0, (tokSem ct.2).2)

theorem tokOf_injective : Function.Injective (tokOf : Dev nD × TI → GSem nD τ sig × ℕ × Fin 3) := by
  rintro ⟨c, t⟩ ⟨c', t'⟩ h
  have h1 : c = c' := congrArg (fun x : GSem nD τ sig × ℕ × Fin 3 => x.1.1.1) h
  have h2 : t = t' := tokSem_injective (congrArg (fun x : GSem nD τ sig × ℕ × Fin 3 => (x.1.2, x.2.2)) h)
  rw [h1, h2]

def allToks : Finset (GSem nD τ sig × ℕ × Fin 3) := Finset.univ.map ⟨tokOf, tokOf_injective⟩

/-- What the launch starts the ghost state at: the staging cells' rounds, and these. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 3 => dutyTok ER (barCell c) 0 d)
    ∗ (bigSep Finset.univ fun j : Fin 7 => dutyTok ER (sndCell j c) 0 0)
    ∗ (bigSep Finset.univ fun j : Fin 7 => dutyTok ER (rcvCell j c) 0 0))

/-- What the launch deals device `c`, -/
def G (c : Dev nD) : sProp 𝕄 :=
  iprop((bigSep Finset.univ fun k : Fin 15 => roundState ER (rd m ρ) (kcell (c, k)) 0)
    ∗ (bigSep Finset.univ fun k : Fin 15 => iprop(atPos ER (kcell (c, k)) 0 ∅ 0 ∗ reached ER (kcell (c, k)) 0)) ∗ toks c)

/-- and what it holds once every cell's invariant stands and the tokens are exchanged. -/
def G' (c : Dev nD) : sProp 𝕄 := iprop(∃ K, ghost m ρ K c)

/-- The minted element splits by device. -/
theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_sum, bigSep_univ_sum]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem bigSep_fin14 (Φ : Fin 14 → sProp 𝕄) :
    bigSep Finset.univ Φ ⊣⊢ iprop((bigSep Finset.univ fun j : Fin 7 => Φ ⟨j.val, by omega⟩) ∗ bigSep Finset.univ fun j : Fin 7 => Φ ⟨7 + j.val, by omega⟩) := by
  rw [bigSep_univ_equiv (finSumFinEquiv : Fin 7 ⊕ Fin 7 ≃ Fin 14), bigSep_univ_sum]
  exact BiEntails.refl

omit [FloatOps F] in
theorem bigSep_fin15 (Φ : Fin 15 → sProp 𝕄) :
    bigSep Finset.univ Φ = iprop(Φ 0 ∗ (bigSep Finset.univ fun j : Fin 7 => Φ (ks j)) ∗ bigSep Finset.univ fun j : Fin 7 => Φ (kr j)) := by
  rw [bigSep_univ_equiv (finSumFinEquiv : Fin 1 ⊕ Fin 14 ≃ Fin 15), bigSep_univ_sum,
    bigSep_univ_equiv (finSumFinEquiv : Fin 7 ⊕ Fin 7 ≃ Fin 14), bigSep_univ_sum,
    bigSep_univ_eq_bigSepL [(0 : Fin 1)] (by decide) (by decide), bigSepL_singleton]
  have h : (fun j : Fin 7 => Φ (finSumFinEquiv (m := 1) (n := 14) (Sum.inr (finSumFinEquiv (m := 7) (n := 7) (Sum.inr j))))) = fun j => Φ (kr j) :=
    funext fun j => congrArg Φ (Fin.ext (by show 1 + (7 + j.val) = 8 + j.val; omega))
  exact congrArg (fun X : sProp 𝕄 => iprop(Φ 0 ∗ (bigSep Finset.univ fun j : Fin 7 => Φ (ks j)) ∗ X)) (congrArg (bigSep Finset.univ) h)

omit [FloatOps F] in
/-- The kernel's own semaphores are the sends' and the receives', -/
theorem ownSems0_eq (c : Dev nD) : (Pipeline.ownSems0 (Ix := Unit) (Name := ℕ) (U := UU) (Lvl := ℕ) (Val := Elt F) (τ := τ) osem c : sProp 𝕄)
    ⊣⊢ iprop((bigSep Finset.univ fun j : Fin 7 => semVal (sndCell j c) 0) ∗ bigSep Finset.univ fun j : Fin 7 => semVal (rcvCell j c) 0) := by
  have hs : (fun j : Fin 7 => (semVal ((c : Thread nD τ), osem ⟨j.val, by omega⟩) 0 : sProp 𝕄)) = fun j => semVal (sndCell j c) 0 := rfl
  have hr : (fun j : Fin 7 => (semVal ((c : Thread nD τ), osem ⟨7 + j.val, by omega⟩) 0 : sProp 𝕄)) = fun j => semVal (rcvCell j c) 0 :=
    funext fun j => congrArg (fun s => (semVal ((c : Thread nD τ), s) 0 : sProp 𝕄)) (by revert j; decide)
  have h := bigSep_fin14 (F := F) (fun k => semVal ((c : Thread nD τ), osem k) 0)
  rw [hs, hr] at h
  exact h
omit [FloatOps F] in
/-- the launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem kcell_ks (c : Dev nD) (j : Fin 7) : kcell (c, ks j) = sndCell j c := congrArg (Prod.mk (c : Thread nD τ)) (csem_ks j)
omit [FloatOps F] in
theorem kcell_kr (c : Dev nD) (j : Fin 7) : kcell (c, kr j) = rcvCell j c := congrArg (Prod.mk (c : Thread nD τ)) (csem_kr j)

omit [FloatOps F] in
/-- A device's cells are its barrier's, its sends' and its receives'. -/
theorem cells_eq (c : Dev nD) (Φ : GSem nD τ sig → sProp 𝕄) : (bigSep Finset.univ fun k : Fin 15 => Φ (kcell (c, k)))
    = iprop(Φ (barCell c) ∗ (bigSep Finset.univ fun j : Fin 7 => Φ (sndCell j c)) ∗ bigSep Finset.univ fun j : Fin 7 => Φ (rcvCell j c)) := by
  rw [bigSep_fin15]
  simp only [kcell_ks, kcell_kr]
  rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [cells_eq c (fun g => semVal g 0), unscopedSems0_eq]
  iintro ⟨HO, HB⟩
  ihave HO := (ownSems0_eq c).1 $$ HO
  isplitl [HB]; · iexact HB
  iexact HO

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  have halloc : iprop((bigSep Finset.univ fun k : Fin 15 => semVal (kcell (c, k)) 0) ∗ bigSep Finset.univ fun k : Fin 15 => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

omit [FloatOps F] in
/-- A family of tokens exchanged along involutions of the mesh. -/
theorem exchange {I : Type} [Fintype I] (e : I → Dev nD → Dev nD) (he : ∀ i c, e i (e i c) = c) (Φ : I → Dev nD → sProp 𝕄) :
    (bigSep Finset.univ fun c : Dev nD => bigSep Finset.univ fun i : I => Φ i c)
      = bigSep Finset.univ fun c : Dev nD => bigSep Finset.univ fun i : I => Φ i (e i c) := by
  rw [BI.bigSep_univ_comm, BI.bigSep_univ_comm (fun c i => Φ i (e i c))]
  exact bigSep_congr fun i _ => bigSep_univ_equiv ⟨e i, e i, he i, he i⟩ (Φ i)

omit [FloatOps F] in
/-- Each token goes to the device that pays its duty: a barrier's to the neighbours, a receive's to the copy's sender. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    exchange pa pa_pa (fun d c => dutyTok ER (barCell c) 0 d), exchange pj pj_pj (fun j c => dutyTok ER (rcvCell j c) 0 0)]

/-- What stays with a device: its positions, and the tokens it pays with. -/
def linear (c : Dev nD) : sProp 𝕄 := iprop(poss c ∗ payToks c)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) : iprop(records m ρ K ∗ linear c) ⊢ G' m ρ c := by
  unfold linear G' ghost
  iintro H
  iexists K
  iexact H

/-- The devices' shares, regrouped: every cell's invariant known to all. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (rd m ρ) κ (kcell ck) : sProp 𝕄))) $$ HI
  icases HK with ⟨%K, #HI⟩
  ihave Htk := (toks_around (F := F)) $$ Htok
  iapply (with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear poss; rw [cells_eq c (fun g => atPos ER g 0 ∅ 0)])))
    isplitl [Hat]; · iexact Hat
    iexact Htk

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem dev_of_cell {a b : Dev nD} {s s' : SemLoc sig} (h : (((a : Thread nD τ), s) : GSem nD τ sig) = ((b : Thread nD τ), s')) : a = b :=
  congrArg (fun g : GSem nD τ sig => g.1.1) h

theorem bar_ne_dma (q : DmaSem sig) : (SemLoc.reg barS : SemLoc sig) ≠ .dma q := fun h => by cases h
theorem rq_injective : Function.Injective (fun j : Fin 7 => (SemLoc.dma (rq j) : SemLoc sig)) := by decide

theorem owedR_bar (d c : Dev nD) (l : List (Fin 7)) : owedR d l (barCell c) () = 0 := by
  induction l with
  | nil => rfl
  | cons j l ih => unfold owedR; rw [Pi.add_apply, Finsupp.add_apply, ih, tallyAt_apply, if_neg (fun h => bar_ne_dma _ (congrArg Prod.snd h.1))]

theorem owedR_rcv (d c : Dev nD) (j : Fin 7) (l : List (Fin 7)) (hl : l.Nodup) :
    owedR d l (rcvCell j c) () = if j ∈ l then (if d = pj j c then NN j else 0) else 0 := by
  induction l with
  | nil => rfl
  | cons i l ih =>
    unfold owedR
    rw [Pi.add_apply, Finsupp.add_apply, ih (List.nodup_cons.mp hl).2, tallyAt_apply]
    by_cases hij : j = i
    · subst hij
      rw [if_neg (List.nodup_cons.mp hl).1, Nat.zero_add, if_pos List.mem_cons_self]
      refine if_congr ⟨fun h => ?_, fun h => ?_⟩ rfl rfl
      · rw [dev_of_cell h.1, pj_pj]
      · rw [h, pj_pj]; exact ⟨rfl, rfl⟩
    · rw [if_neg (c := rcvCell j c = _ ∧ _) (fun h => hij (rq_injective (congrArg Prod.snd h.1))), Nat.add_zero]
      exact if_congr ⟨fun h => List.mem_cons_of_mem _ h, fun h => (List.mem_cons.mp h).resolve_left hij⟩ rfl rfl

/-- A unit owed to a neighbour's barrier, seen from that barrier. -/
theorem unit_bar (e : Dev nD → Dev nD) (he : ∀ c, e (e c) = c) (d c : Dev nD) :
    (tallyAt (barCell (e d)) () 1 : CellTallies nD τ sig Unit) (barCell c) () = if d = e c then 1 else 0 := by
  rw [tallyAt_apply]
  refine if_congr ⟨fun h => ?_, fun h => ?_⟩ rfl rfl
  · rw [dev_of_cell h.1, he]
  · rw [h, he]; exact ⟨rfl, rfl⟩

theorem owed_bar (d c : Dev nD) :
    O₀ d (barCell c) () = (if d = pz c then 1 else 0) + (if d = py c then 1 else 0) + (if d = px c then 1 else 0) := by
  unfold O₀
  rw [Pi.add_apply, Finsupp.add_apply, Pi.add_apply, Finsupp.add_apply, Pi.add_apply, Finsupp.add_apply, owedR_bar, Nat.zero_add,
    unit_bar pz pz_pz, unit_bar py py_py, unit_bar px px_px]

theorem owed_rcv (d c : Dev nD) (j : Fin 7) : O₀ d (rcvCell j c) () = if d = pj j c then NN j else 0 := by
  have hb (e : Dev nD) : (tallyAt (barCell e) () 1 : CellTallies nD τ sig Unit) (rcvCell j c) () = 0 := by
    rw [tallyAt_apply, if_neg (fun h => bar_ne_dma _ (congrArg Prod.snd h.1).symm)]
  unfold O₀
  rw [Pi.add_apply, Finsupp.add_apply, Pi.add_apply, Finsupp.add_apply, Pi.add_apply, Finsupp.add_apply, hb, hb, hb,
    owedR_rcv d c j l0 (by decide), if_pos (by clear hb; revert j; decide),
    Nat.add_zero]

/-- A barrier is owed three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pz c) fun _ => 1, Finset.sum_ite_eq' Finset.univ (py c) fun _ => 1, Finset.sum_ite_eq' Finset.univ (px c) fun _ => 1,
    if_pos (Finset.mem_univ _), if_pos (Finset.mem_univ _), if_pos (Finset.mem_univ _)]

/-- a receive what its copy brings. -/
theorem launch_rcv (c : Dev nD) (j : Fin 7) :
    tallyOn (rcvCell j c) (launchCredit (Pipeline.owing O₀) 0 (rcvCell j c)) = (tallyAt (rcvCell j c) () (NN j) : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (pj j c) fun _ => NN j,
    if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.image fun j : Fin 7 => (SemLoc.dma (rq j) : SemLoc sig)) fun s hs => ?_).trans ?_
  · obtain ⟨j, -, rfl⟩ := Finset.mem_image.mp hs
    exact Finset.mem_erase.mpr ⟨(bar_ne_dma _).symm, Finset.mem_univ _⟩
  · rw [bigSep_image_of_injOn rq_injective.injOn]
    exact bigSep_mono fun j _ => Entails.of_eq (congrArg cred (launch_rcv c j))

/-! ## The launch theorem's conditions -/

omit [FloatOps F] in
theorem rAny_eq (c : Dev nD) : (rAny c : sProp 𝕄) = iprop(∃ f, (((c : Thread nD τ).loc cc0_scratch0) ↦{fullShare} f)) := by
  unfold rAny rPts; simp only [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [rAny_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  rw [rAny_eq]
  iintro ⟨Hr, HzS, HzV, HzB⟩
  isplitl [HzB]; · iexact HzB
  isplitl [HzS HzV]
  · iapply (ownSems0_eq c).2
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, whatever the float values, every fair execution of the eight kernels ends, with
    each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The ids and the table end as they began, -/
theorem finalA_ids (c : Dev nD) : finalA m ρ c (0 : Fin 3) = (s₀ m ρ).mem (win0_0.arr.view.loc (c : Thread nD τ)) :=
  (dats (F := F) m ρ 0 c).arrAt_in (0 : Fin 3) rfl _
theorem finalA_tab (c : Dev nD) : finalA m ρ c (1 : Fin 3) = (s₀ m ρ).mem (win0_1.arr.view.loc (c : Thread nD τ)) :=
  (dats (F := F) m ρ 0 c).arrAt_in (1 : Fin 3) rfl _

end Cert.Cube

end
-- ==== Proof.Reference.lean ====
/-
# The precondition, and the reference's value

The precondition read at a position: the id, as a word, is below 16384. Under it the reference, which is a wrap of
negative ids and one gather, is row `ids i` of the table at each position `i`.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.ValueIdxCore
public import Idealize.ShloMosaic.Lib.ReduceAll
public import Idealize.ShloMosaic.Lib.StableHlo.Predicate

@[expose] public section

set_option maxRecDepth 16384

noncomputable section

namespace Cert.Cube.Ref

open Cert.ReferenceIdeal Cert.ReferenceIdeal.Gen
open Idealize.ShloMosaic Idealize.ShloMosaic.ValueIdx

/-! ## The precondition -/

theorem preFactsK : Cert.Pre_ids_in_range_KernelIdeal.Facts := ⟨by decide, by decide, by decide⟩
theorem preFactsR : Cert.Pre_ids_in_range_ReferenceIdeal.Facts := ⟨by decide, by decide, by decide⟩

/-- A word that is at least 0 and less than 16384, compared as signed words, is below 16384. -/
theorem lt_of_bounds (w : BitVec 32) (h : IntOp.andi (IntOp.cmpi .sge w 0#32) (IntOp.cmpi .slt w 16384#32) = 1#1) : w.toNat < 16384 := by
  obtain ⟨h0, h1⟩ := IntOp.andi_eq_one.1 h
  have a0 : (0#32).sle w = true := (StableHlo.Predicate.ofBool_eq_one_iff _).1 h0
  have a1 : w.slt 16384#32 = true := (StableHlo.Predicate.ofBool_eq_one_iff _).1 h1
  simp only [BitVec.sle, BitVec.slt, decide_eq_true_eq] at a0 a1
  have e := BitVec.toInt_eq_toNat_cond w
  have z : (0#32).toInt = 0 := rfl
  have s : (16384#32).toInt = 16384 := rfl
  have l := w.isLt
  rw [z] at a0; rw [s] at a1
  split at e <;> omega

attribute [local instance] preFactsK in
/-- Where the precondition holds, every id is below 16384. -/
theorem ids_lt {F : FTy → Type} [FloatOps F] (ids : IVec S1024 32) (tab : FVec F ⟨2, ![8192, 1024]⟩ .f32)
    (h : Cert.Pre_ids_in_range_KernelIdeal.fn (F := F) ids tab = fun _ => 1#1) (i : S1024.Idx) : (ids i).toNat < 16384 := by
  have h0 := congrFun h (fun a => a.elim0)
  unfold Cert.Pre_ids_in_range_KernelIdeal.fn at h0
  dsimp only at h0
  haveI : Subsingleton Cert.Pre_ids_in_range_KernelIdeal.S_.Idx := ⟨fun a b => funext fun x => x.elim0⟩
  exact lt_of_bounds _ (Host.reduce_andi_all _ _ _ _ _ h0 i)

/-! ## The gather -/

/-- The gather's dimension numbers: whole rows of the table, one start index to each position. -/
theorem gather_row {α : Type} (x : S16384x1024.Idx → α) (idx : IVec S1024x1 32) (y : S1024x1024.Idx) :
    Host.gather gather_S16384x1024_S1024x1_S1024x1024_1_0_n_n_0_1_11024 x idx y
      = x (ix2 ⟨min (idx (ix2 ⟨(y 0).val, idx2_lt0 y⟩ 0)).toInt.toNat 16383, by omega⟩ ⟨(y 1).val, idx2_lt1 y⟩) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S1024x1_S1024x1024_1_0_n_n_0_1_11024.startIndexMap from List.mem_singleton.mpr rfl)]
    have hsi : gather_S16384x1024_S1024x1_S1024x1024_1_0_n_n_0_1_11024.siIdx y
        ⟨List.idxOf (0 : Fin 2) gather_S16384x1024_S1024x1_S1024x1024_1_0_n_n_0_1_11024.startIndexMap,
          List.idxOf_lt_length_iff.2 (List.mem_singleton.mpr rfl)⟩ = ix2 ⟨(y 0).val, idx2_lt0 y⟩ 0 := by
      funext b; refine Fin.ext ?_
      match b with
      | ⟨0, _⟩ => rfl
      | ⟨1, _⟩ => rfl
    rw [hsi]
    rfl
  · unfold GatherDims.start
    rw [dif_neg (show ¬(1 : Fin 2) ∈ gather_S16384x1024_S1024x1_S1024x1024_1_0_n_n_0_1_11024.startIndexMap by decide)]
    unfold GatherDims.offCoord
    rw [dif_pos (show (1 : Fin 2) ∈ gather_S16384x1024_S1024x1_S1024x1024_1_0_n_n_0_1_11024.sKept by decide)]
    simp only [Nat.zero_add]
    rfl

/-- The row that an id names. -/
def row (w : BitVec 32) (h : w.toNat < 16384) : Fin 16384 := ⟨w.toNat, h⟩

/-- Where every id is below 16384, the reference's result is row `ids i` of the table at position `i`. -/
theorem value {F : FTy → Type} [FloatOps F] (ids : IVec S1024 32) (tab : FVec F S16384x1024 .f32) (h : ∀ i, (ids i).toNat < 16384) (y : S1024x1024.Idx) :
    Read.val_main_v6 (F := F) ids tab y
      = tab (ix2 (row (ids (ix1 ⟨(y 0).val, idx2_lt0 y⟩)) (h _)) ⟨(y 1).val, idx2_lt1 y⟩) := by
  have hi : Read.val_main_v5 (F := F) ids (ix2 ⟨(y 0).val, idx2_lt0 y⟩ 0) = ids (ix1 ⟨(y 0).val, idx2_lt0 y⟩) := by
    rw [Read.val_main_v5_apply, Read.val_main_v4_apply, Read.val_main_v1_apply, Read.val_main_v0_apply, Read.val_main_c_apply]
    rw [show Read.idx_main_v5 (ix2 ⟨(y 0).val, idx2_lt0 y⟩ 0) = ix1 ⟨(y 0).val, idx2_lt0 y⟩ from funext fun a => by
      match a with
      | ⟨0, _⟩ => rfl]
    generalize hw : ids (ix1 ⟨(y 0).val, idx2_lt0 y⟩) = w
    have hl : w.toNat < 16384 := hw ▸ h _
    have hn : IntOp.cmpi .slt w 0#32 = 0#1 := by
      refine eq_zero_of_ne_one fun e => ?_
      have a1 : w.slt 0#32 = true := (StableHlo.Predicate.ofBool_eq_one_iff _).1 e
      simp only [BitVec.slt, decide_eq_true_eq] at a1
      rw [StableHlo.Predicate.toInt_eq_toNat_of_lt (by omega), show (0#32).toInt = 0 from rfl] at a1
      omega
    rw [hn]; rfl
  unfold Read.val_main_v6
  rw [gather_row]
  congr 2
  refine Fin.ext ?_
  show min _ 16383 = (ids _).toNat
  rw [hi, StableHlo.Predicate.toInt_eq_toNat_of_lt (by have := h (ix1 ⟨(y 0).val, idx2_lt0 y⟩); omega)]
  have := h (ix1 ⟨(y 0).val, idx2_lt0 y⟩)
  omega

end Cert.Cube.Ref

end
-- ==== Proof.Value.lean ====
/-
# The value of the kernel in exact arithmetic

A device's partial lookup is a sum over its shard's rows of an indicator times the row. It is the row that the id
names if the shard holds that row, and zero if it does not. The two shards' partials add up to the row.
-/
module

public import proofs.«01_k».proof.Proof.Launch
public import proofs.«01_k».proof.Proof.Reference
public import Idealize.ShloMosaic.Lib.Pointwise

@[expose] public section

set_option maxRecDepth 16384

noncomputable section

namespace Cert.Cube

open Cert.KernelIdeal Cert.KernelIdeal.Gen
open Idealize.ShloMosaic
open Idealize.ShloMosaic.TcCoe
open Idealize.SL.Sem

/-- The indicator, of the row `k` against the id `w` less the shard's first row. -/
def ind (w x : BitVec 32) (k : ℕ) : EReal :=
  FloatOps.sitofp (F := Ideal) FTy.f32 (BitVec.setWidth 32 (IntOp.cmpi CmpIPredicate.eq (BitVec.ofNat 32 k) (IntOp.subi w (Scalar.muli x 8192#32))))

/-- It is 1 at the row that the id names within the shard, 0 at the others. -/
theorem ind_eq (w x : BitVec 32) (hw : w.toNat < 16384) (hx : x.toNat < 2) (k : ℕ) (hk : k < 8192) :
    ind w x k = if w.toNat = 8192 * x.toNat + k then 1 else 0 := by
  have e : IntOp.cmpi CmpIPredicate.eq (BitVec.ofNat 32 k) (IntOp.subi w (Scalar.muli x 8192#32)) = BitVec.ofBool (decide (w.toNat = 8192 * x.toNat + k)) := by
    show BitVec.ofBool (BitVec.ofNat 32 k == w - x * 8192#32) = _
    congr 1
    rw [Bool.eq_iff_iff, beq_iff_eq, decide_eq_true_iff, ← BitVec.toNat_inj, BitVec.toNat_ofNat, BitVec.toNat_sub, BitVec.toNat_mul,
      show (8192#32).toNat = 8192 from rfl]
    omega
  unfold ind
  rw [e]
  by_cases h : w.toNat = 8192 * x.toNat + k
  · rw [if_pos h, decide_eq_true h]
    show ((((BitVec.setWidth 32 (1#1 : BitVec 1)).toInt : ℝ)) : EReal) = 1
    rw [show (BitVec.setWidth 32 (1#1 : BitVec 1)).toInt = 1 from rfl]; norm_num
  · rw [if_neg h, decide_eq_false h]
    show ((((BitVec.setWidth 32 (0#1 : BitVec 1)).toInt : ℝ)) : EReal) = 0
    rw [show (BitVec.setWidth 32 (0#1 : BitVec 1)).toInt = 0 from rfl]; norm_num

/-- An element of the partial lookup is a sum over the shard's rows. -/
theorem pay1_sum (x : BitVec 32) (ids : Vec Ideal S256 .i32) (tab : Vec Ideal S8192x1024 .f32) (r : Fin 256) (n : Fin 1024) :
    k0_pay1 (F := Ideal) x ids tab (ix2 r n) = 0 + ∑ k : Fin 8192, ind (ids (ix1 r)) x k.val * tab (ix2 k n) := by
  unfold k0_pay1
  dsimp only
  simp only [pointwise]
  refine congrArg (0 + ·) (Finset.sum_congr rfl fun k _ => ?_)
  change FloatOps.sitofp (F := Ideal) FTy.f32 (BitVec.setWidth 32 (IntOp.cmpi CmpIPredicate.eq (BitVec.ofNat 32 (0 * 8192 + k.val))
    (IntOp.subi (ids (ix1 r)) (Scalar.muli x 8192#32)))) * tab (ix2 k n) = _
  rw [zero_mul, zero_add]
  rfl

/-- It is the shard's row that the id names, and 0 where the shard does not hold that row. -/
theorem pay1_apply (x : BitVec 32) (hx : x.toNat < 2) (ids : Vec Ideal S256 .i32) (tab : Vec Ideal S8192x1024 .f32) (r : Fin 256) (n : Fin 1024)
    (hw : (ids (ix1 r) : BitVec 32).toNat < 16384) :
    k0_pay1 (F := Ideal) x ids tab (ix2 r n)
      = if (ids (ix1 r) : BitVec 32).toNat / 8192 = x.toNat then tab (ix2 ⟨(ids (ix1 r) : BitVec 32).toNat % 8192, Nat.mod_lt _ (by decide)⟩ n) else (0 : EReal) := by
  rw [pay1_sum, zero_add]
  generalize hg : (ids (ix1 r) : BitVec 32) = w at hw ⊢
  by_cases h : w.toNat / 8192 = x.toNat
  · rw [if_pos h, Finset.sum_eq_single (⟨w.toNat % 8192, Nat.mod_lt _ (by decide)⟩ : Fin 8192)]
    · rw [ind_eq w x hw hx _ (Nat.mod_lt _ (by decide)), if_pos (by omega), one_mul]
    · intro k _ hk
      rw [ind_eq w x hw hx _ k.isLt, if_neg (fun e => hk (Fin.ext (by show k.val = w.toNat % 8192; have := k.isLt; omega))), zero_mul]
    · intro hn; exact absurd (Finset.mem_univ _) hn
  · rw [if_neg h]
    refine Finset.sum_eq_zero fun k _ => ?_
    rw [ind_eq w x hw hx _ k.isLt, if_neg (fun e => h (by have := k.isLt; omega)), zero_mul]

/-- The sum of two partials, one element of it. -/
theorem pay2_apply (a b : Vec Ideal S256x1024 .f32) (i : S256x1024.Idx) : k0_pay2 (F := Ideal) a b i = (a i + b i : EReal) := by
  unfold k0_pay2
  rw [shapeCast_self]
  rfl

/-! ## What the kernel loads -/

variable (m : (ℓ : Loc nD τ sig) → Buf (Elt Ideal) ℓ) (ρ : Dev nD → PrngReg)

/-- The staged ids and the staged shard are the device's arguments, -/
theorem idsStg_eq (c : Dev nD) : idsStg m ρ c = m ((c : Thread nD τ).loc main_arg0) :=
  Memref.read_access_unit_zero (Elt Ideal) main_arg0 (off := fun a => (win0_0.index (0 : Fin 1)) a * main_arg0.ty.shape.size a)
    (funext fun a => by fin_cases a; decide) (fun a => by fin_cases a; decide) _
theorem tabStg_eq (c : Dev nD) : tabStg m ρ c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _

/-- and the result array ends as the staged result. -/
theorem finalA_out (c : Dev nD) : finalA m ρ c (2 : Fin 3) = OUT m ρ c := by
  have h : (win0_2.blk (0 : Fin 1)).view.read (Elt Ideal) (finalA m ρ c (2 : Fin 3)) = OUT m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  refine Eq.trans ?_ h
  exact (Memref.read_access_unit_zero (Elt Ideal) main_v1 (off := fun a => (win0_2.index (0 : Fin 1)) a * main_v1.ty.shape.size a)
    (funext fun a => by fin_cases a <;> decide) (fun a => by fin_cases a <;> decide) _).symm

/-- The position, among the ids, of the `r`-th id of row block `k`. -/
def pos (k : Fin 4) (r : Fin 256) : Fin 1024 := ⟨256 * k.val + r.val, by have := k.isLt; have := r.isLt; omega⟩

theorem off1_eq (c : Dev nD) : k0_off1 c = ![256 * (ko c).val] := by rw [k0_off1_eq]; revert c; decide

/-- The `r`-th id that device `c` loads. -/
theorem ids_load (c : Dev nD) (f : S1024.Idx → BitVec 32) (r : Fin 256) :
    iM.view.readAt (Elt Ideal) (Rect.unit (s := S1024) (k0_off1 c) S256.size (k0_off1_inb c)).toLoadRect f (ix1 r) = f (ix1 (pos (ko c) r)) := by
  show f ((Rect.unit (s := S1024) (k0_off1 c) S256.size (k0_off1_inb c)).emb (ix1 r)) = _
  congr 1
  funext a
  match a with
  | ⟨0, _⟩ =>
    refine Fin.ext ((ValueKit.rect_emb_unit_val (s := S1024) (k0_off1 c) S256.size (k0_off1_inb c) (ix1 r) (0 : Fin 1)).trans ?_)
    exact congrArg (· + r.val) (congrFun (off1_eq c) 0)

theorem xw_toNat (c : Dev nD) : (xw c).toNat = c.val / 4 := by revert c; decide

/-! ## The result -/

variable (ids : IVec S1024 32) (tab : (⟨2, ![16384, 1024]⟩ : Shape).Idx → EReal)

/-- Where the ids are in range, device `c`'s partial is the table's row if its shard holds it, and 0 if not. -/
theorem part_apply (hI : ∀ c : Dev nD, m ((c : Thread nD τ).loc main_arg0) = ids)
    (hT : ∀ c : Dev nD, m ((c : Thread nD τ).loc main_arg1) = Layout.blockN ⟨2, ![8192, 1024]⟩ ⟨2, ![16384, 1024]⟩ (Layout.meshBlock [2, 2, 2] ![[0], []] c) tab)
    (hr : ∀ i, (ids i).toNat < 16384) (c : Dev nD) (r : Fin 256) (n : Fin 1024) :
    part (F := Ideal) m ρ c (ix2 r n)
      = if (ids (ix1 (pos (ko c) r))).toNat / 8192 = c.val / 4 then tab (ix2 ⟨(ids (ix1 (pos (ko c) r))).toNat, hr _⟩ n) else (0 : EReal) := by
  have hid := ids_load c ids r
  unfold part
  rw [idsStg_eq, tabStg_eq, hI c]
  rw [pay1_apply (xw c) (by rw [xw_toNat]; have := c.isLt; simp only [nD] at this; omega) _ _ r n (by rw [hid]; exact hr _), hid, xw_toNat]
  refine if_ctx_congr Iff.rfl (fun h => ?_) (fun _ => rfl)
  refine (congrFun (Memref.readAt_unit_zero (Elt Ideal) cc0_stg1_0 hz inb_S8192x1024_S8192x1024_0_0 (m ((c : Thread nD τ).loc main_arg1))) _).trans ?_
  rw [hT c]
  show tab _ = tab _
  congr 1
  funext a
  refine Fin.ext ?_
  match a with
  | ⟨0, _⟩ =>
    have hb : ∀ c : Dev nD, (Layout.meshBlock (r := 2) [2, 2, 2] ![[0], []] c (by decide) 0).val = c.val / 4 := by decide
    refine (congrArg (· * 8192 + (ids (ix1 (pos (ko c) r))).toNat % 8192) (hb c)).trans ?_
    show c.val / 4 * 8192 + (ids (ix1 (pos (ko c) r))).toNat % 8192 = (ids (ix1 (pos (ko c) r))).toNat
    omega
  | ⟨1, _⟩ =>
    show 0 * 1024 + n.val = n.val
    omega

/-- Where the ids are in range, row `i` of every device's result is row `ids i` of the table. -/
theorem OUT_apply (hI : ∀ c : Dev nD, m ((c : Thread nD τ).loc main_arg0) = ids)
    (hT : ∀ c : Dev nD, m ((c : Thread nD τ).loc main_arg1) = Layout.blockN ⟨2, ![8192, 1024]⟩ ⟨2, ![16384, 1024]⟩ (Layout.meshBlock [2, 2, 2] ![[0], []] c) tab)
    (hr : ∀ i, (ids i).toNat < 16384) (c : Dev nD) (i : S1024x1024.Idx) :
    OUT (F := Ideal) m ρ c i = tab (ix2 ⟨(ids (ix1 (i 0))).toNat, hr _⟩ (i 1)) := by
  have hlo : lo i = ix2 (⟨(i 0).val % 256, Nat.mod_lt _ (by decide)⟩ : Fin 256) (⟨(i 1).val, (i 1).isLt⟩ : Fin 1024) := by
    funext a
    match a with
    | ⟨0, _⟩ => rfl
    | ⟨1, _⟩ => rfl
  have hi0 : (i 0).val < 1024 := (i 0).isLt
  obtain ⟨k, hk⟩ : ∃ k : Fin 4, k.val = (i 0).val / 256 := ⟨⟨(i 0).val / 256, by omega⟩, rfl⟩
  show k0_pay2 (F := Ideal) (part m ρ (rowDev c ((i 0).val / 256))) (part m ρ (px (rowDev c ((i 0).val / 256)))) (lo i) = _
  rw [pay2_apply, hlo, ← hk, part_apply m ρ ids tab hI hT hr, part_apply m ρ ids tab hI hT hr]
  have hko : ∀ (c : Dev nD) (k : Fin 4), ko (rowDev c k.val) = k ∧ ko (px (rowDev c k.val)) = k
      ∧ (rowDev c k.val).val / 4 = c.val / 4 ∧ (px (rowDev c k.val)).val / 4 = 1 - c.val / 4 ∧ c.val / 4 < 2 := by decide
  obtain ⟨h1, h2, h3, h4, h5⟩ := hko c k
  rw [h1, h2, h3, h4]
  have hp : pos k (⟨(i 0).val % 256, Nat.mod_lt _ (by decide)⟩ : Fin 256) = i 0 := Fin.ext (by show 256 * k.val + (i 0).val % 256 = (i 0).val; omega)
  rw [hp]
  have hb := hr (ix1 (i 0))
  by_cases h : (ids (ix1 (i 0))).toNat / 8192 = c.val / 4
  · rw [if_pos h, if_neg (by omega), add_zero]; rfl
  · rw [if_neg h, if_pos (by omega), zero_add]; rfl

end Cert.Cube

end
-- ==== Proof.lean ====
/-
# The claims

The frames are the two runs read at the arguments. The algebraic claim reads both results as the rows that the ids
name: the kernel's by `Cube.OUT_apply`, the reference's by `Cube.Ref.value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

attribute [local instance] Cert.Cube.Ref.preFactsK Cert.Cube.Ref.preFactsR
attribute [local instance] Cert.Kernel.Gen.facts Cert.KernelIdeal.Gen.facts Cert.ReferenceIdeal.Gen.facts

/-- The two printed kernels have one text: their body tables are equal, -/
theorem body_table : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => rfl
/-- and so are the tables with the pipeline's labels added. -/
theorem table : Cert.Kernel.defs (F := Bits) = Cert.KernelIdeal.defs (F := Bits) :=
  congrArg (Pipeline.defs (Cert.KernelIdeal.pcfgs (F := Bits))) body_table

/-- The kernel's frame over floats as bit patterns; -/
theorem frame_kernel : Cert.quiescent_Kernel := by
  intro m ρ _
  refine (congrArg (fun d => θ_run d (onTc (τ := Cert.KernelIdeal.τ) (Cert.KernelIdeal.main (F := Bits))) ⟨m, fun _ => 0, ρ⟩
    (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) table).mpr ?_
  exact (θ_run Cert.KernelIdeal.defs _ _).mono (fun _ h => ⟨fun c =>
    ⟨(h.1 c (0 : Fin 3)).trans (Cert.Cube.finalA_ids m ρ c), (h.1 c (1 : Fin 3)).trans (Cert.Cube.finalA_tab m ρ c)⟩, h.2⟩)
    (Cert.Cube.run_main (F := Bits) m ρ)

/-- its frame in exact arithmetic, -/
theorem frame_ideal : Cert.quiescent_KernelIdeal := by
  intro m ρ _
  exact (θ_run Cert.KernelIdeal.defs _ _).mono (fun _ h => ⟨fun c =>
    ⟨(h.1 c (0 : Fin 3)).trans (Cert.Cube.finalA_ids m ρ c), (h.1 c (1 : Fin 3)).trans (Cert.Cube.finalA_tab m ρ c)⟩, h.2⟩)
    (Cert.Cube.run_main (F := Ideal) m ρ)

/-- which holds under the precondition too; -/
theorem frame_ideal_pre : Cert.quiescent_KernelIdeal_pre_ids_in_range_KernelIdeal := fun m ρ _ => frame_ideal m ρ trivial

/-- the reference's frame, -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- which holds under the precondition too. -/
theorem frame_reference_pre : Cert.quiescent_ReferenceIdeal_pre_ids_in_range_ReferenceIdeal := fun m ρ _ => frame_reference m ρ trivial

/-- Where the ids are in range, every device's result and the reference's are the rows of the table that the ids name. -/
theorem lookup : Cert.algebraic_KernelIdeal_ReferenceIdeal_pre_ids_in_range_KernelIdeal := by
  intro m ρ m' ρ' hpre hagree
  have hr : ∀ i, ((m' (((0 : Dev Cert.ReferenceIdeal.nD).tc : Thread Cert.ReferenceIdeal.nD Cert.ReferenceIdeal.τ).loc Cert.ReferenceIdeal.main_arg0) : IVec Cert.ReferenceIdeal.S1024 32) i).toNat < 16384 := by
    intro i
    rw [← (hagree 0).1]
    exact Cert.Cube.Ref.ids_lt (F := Ideal) _ _ (hpre 0) i
  refine ⟨Cert.ReferenceIdeal.Read.val_main_v6 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c =>
      ⟨((h.1 c (2 : Fin 3)).trans (Cert.Cube.finalA_out m ρ c)).trans ?_,
        (h.1 c (0 : Fin 3)).trans (Cert.Cube.finalA_ids m ρ c), (h.1 c (1 : Fin 3)).trans (Cert.Cube.finalA_tab m ρ c)⟩)
      (Cert.Cube.run_main (F := Ideal) m ρ)
    funext i
    refine (Cert.Cube.OUT_apply m ρ _ _ (fun c => (hagree c).1) (fun c => (hagree c).2) hr c i).trans ?_
    refine Eq.trans ?_ (Cert.Cube.Ref.value (F := Ideal) _ _ hr i).symm
    refine congrArg _ (funext fun a => ?_)
    match a with
    | ⟨0, _⟩ => rfl
    | ⟨1, _⟩ => rfl
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, Cert.Cube.Ref.preFactsK, Cert.Cube.Ref.preFactsR,
    frame_kernel, frame_ideal, frame_ideal_pre, frame_reference, frame_reference_pre, trivial, lookup⟩

end Cert.Proof

end
